-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S50000x128 : Shape := ⟨2, ![50000, 128]⟩
abbrev S50000 : Shape := ⟨1, ![50000]⟩
abbrev S2x512x128 : Shape := ⟨3, ![2, 512, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x512x128 : S_.BroadcastsInDim S2x512x128 (![] : Fin 0 → Fin S2x512x128.rank)
  reducesTo_S2x512x128_S_d0_1_2 : S2x512x128.ReducesTo [0, 1, 2] S_

variable [Facts]

def fn {F : FTy → Type} [FloatOps F] (main_arg0 : FVec F S50000x128 .f32) (main_arg1 : IVec S50000 32) (main_arg2 : FVec F S2x512x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x512x128 .f32 := Host.absf main_arg2
  let main_cst_0 : FVec F S_ .f32 := constant S_ .f32 0x7F800000#32
  let main_v5 : FVec F S2x512x128 .f32 := broadcastInDim S2x512x128 ![] bcast_S_S2x512x128 main_cst_0
  let main_v6 : IVec S2x512x128 1 := cmpf .olt main_v4 main_v5
  let main_c_1 : IVec S_ 1 := constantI S_ 1 1#1
  let main_v7 : IVec S_ 1 := (fun x v => Host.reduce IntOp.andi x v reducesTo_S2x512x128_S_d0_1_2 h_S_) main_v6 main_c_1
  let main_v8 : IVec S_ 1 := andi main_v3 main_v7
  main_v8
-- ==== Kernel.lean ====
abbrev S50000x128 : Shape := ⟨2, ![50000, 128]⟩
abbrev S50000 : Shape := ⟨1, ![50000]⟩
abbrev S2x512x128 : Shape := ⟨3, ![2, 512, 128]⟩
abbrev S10x1x5000 : Shape := ⟨3, ![10, 1, 5000]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x256 : Shape := ⟨2, ![512, 256]⟩
abbrev S256x512 : Shape := ⟨2, ![256, 512]⟩
abbrev S8x512 : Shape := ⟨2, ![8, 512]⟩
abbrev S5000x128 : Shape := ⟨2, ![5000, 128]⟩
abbrev S1x1x5000 : Shape := ⟨3, ![1, 1, 5000]⟩
abbrev S128x256 : Shape := ⟨2, ![128, 256]⟩
abbrev S2x128 : Shape := ⟨2, ![2, 128]⟩
abbrev S8x2 : Shape := ⟨2, ![8, 2]⟩
abbrev S1x512x128 : Shape := ⟨3, ![1, 512, 128]⟩
abbrev S512x128 : Shape := ⟨2, ![512, 128]⟩
abbrev S128 : Shape := ⟨1, ![128]⟩
abbrev S1x128 : Shape := ⟨2, ![1, 128]⟩
abbrev S5000x256 : Shape := ⟨2, ![5000, 256]⟩
abbrev S5000 : Shape := ⟨1, ![5000]⟩
abbrev S5000x1 : Shape := ⟨2, ![5000, 1]⟩
abbrev S5000x2 : Shape := ⟨2, ![5000, 2]⟩
abbrev S1x5000 : Shape := ⟨2, ![1, 5000]⟩
abbrev S8x5000 : Shape := ⟨2, ![8, 5000]⟩
abbrev S8x256 : Shape := ⟨2, ![8, 256]⟩
abbrev S8x1 : Shape := ⟨2, ![8, 1]⟩

abbrev nBuf : Space → Nat
  | .hbm => 48
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x512x128, .f32⟩
  | .hbm, ⟨3, _⟩ => ⟨S10x1x5000, .i32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .i32⟩
  | .hbm, ⟨22, _⟩ => ⟨S512x512, .i32⟩
  | .hbm, ⟨23, _⟩ => ⟨S512x512, .i1⟩
  | .hbm, ⟨24, _⟩ => ⟨S_, .i32⟩
  | .hbm, ⟨25, _⟩ => ⟨S_, .i1⟩
  | .hbm, ⟨26, _⟩ => ⟨S512x512, .i1⟩
  | .hbm, ⟨27, _⟩ => ⟨S512x512, .i1⟩
  | .hbm, ⟨28, _⟩ => ⟨S512x512, .i1⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x256, .f32⟩
  | .hbm, ⟨44, _⟩ => ⟨S512x256, .f32⟩
  | .hbm, ⟨45, _⟩ => ⟨S256x512, .f32⟩
  | .hbm, ⟨46, _⟩ => ⟨S256x512, .f32⟩
  | .hbm, ⟨47, _⟩ => ⟨S8x512, .f32⟩
  | .local _ .vmem, ⟨0, _⟩ => ⟨S5000x128, .f32⟩
  | .local _ .vmem, ⟨1, _⟩ => ⟨S5000x128, .f32⟩
  | .local _ .vmem, ⟨2, _⟩ => ⟨S1x1x5000, .i32⟩
  | .local _ .vmem, ⟨3, _⟩ => ⟨S1x1x5000, .i32⟩
  | .local _ .vmem, ⟨4, _⟩ => ⟨S2x512x128, .f32⟩
  | .local _ .vmem, ⟨5, _⟩ => ⟨S512x256, .f32⟩
  | .local _ .vmem, ⟨6, _⟩ => ⟨S512x256, .f32⟩
  | .local _ .vmem, ⟨7, _⟩ => ⟨S256x512, .f32⟩
  | .local _ .vmem, ⟨8, _⟩ => ⟨S256x512, .f32⟩
  | .local _ .vmem, ⟨9, _⟩ => ⟨S8x512, .f32⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S2x128, .f32⟩
  | .local _ .vmem, ⟨15, _⟩ => ⟨S8x512, .f32⟩
  | .local _ .vmem, ⟨16, _⟩ => ⟨S8x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v61 : BitVec 1 := Scalar.cmpi .eq arg0 c9_i32
  let v62 : BitVec 32 := Scalar.extui v61
  let c0_i32_36 : BitVec 32 := 0#32
  let v63 : BitVec 1 := Scalar.cmpi .ne v62 c0_i32_36
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S50000x128 : Shape := ⟨2, ![50000, 128]⟩
abbrev S50000 : Shape := ⟨1, ![50000]⟩
abbrev S2x512x128 : Shape := ⟨3, ![2, 512, 128]⟩
abbrev S_ : Shape := ⟨0, ![]⟩
abbrev S50000x2x512 : Shape := ⟨3, ![50000, 2, 512]⟩
abbrev S2x50000x512 : Shape := ⟨3, ![2, 50000, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x50000x512 : Shape := ⟨3, ![1, 50000, 512]⟩
abbrev S50000x512 : Shape := ⟨2, ![50000, 512]⟩
abbrev S8x512 : Shape := ⟨2, ![8, 512]⟩
abbrev S50000x1 : Shape := ⟨2, ![50000, 1]⟩
abbrev S8 : Shape := ⟨1, ![8]⟩
abbrev S8x1 : Shape := ⟨2, ![8, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x512x128, .f32⟩
  | .hbm, ⟨3, _⟩ => ⟨S_, .f32⟩
  | .hbm, ⟨4, _⟩ => ⟨S50000x128, .f32⟩
  | .hbm, ⟨5, _⟩ => ⟨S50000x128, .f32⟩
  | .hbm, ⟨6, _⟩ => ⟨S50000x2x512, .f32⟩
  | .hbm, ⟨7, _⟩ => ⟨S2x50000x512, .f32⟩
  | .hbm, ⟨8, _⟩ => ⟨S512, .i32⟩
  | .hbm, ⟨9, _⟩ => ⟨S512x1, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S2x50000x512, .f32⟩
  | .hbm, ⟨26, _⟩ => ⟨S2x50000x512, .f32⟩
  | .hbm, ⟨27, _⟩ => ⟨S2x50000x512, .f32⟩
  | .hbm, ⟨28, _⟩ => ⟨S1x50000x512, .f32⟩
  | .hbm, ⟨29, _⟩ => ⟨S50000x512, .f32⟩
  | .hbm, ⟨30, _⟩ => ⟨S1x50000x512, .f32⟩
  | .hbm, ⟨31, _⟩ => ⟨S50000x512, .f32⟩
  | .hbm, ⟨32, _⟩ => ⟨S50000x512, .f32⟩
  | .hbm, ⟨33, _⟩ => ⟨S1x50000x512, .f32⟩
  | .hbm, ⟨34, _⟩ => ⟨S50000x512, .f32⟩
  | .hbm, ⟨35, _⟩ => ⟨S1x50000x512, .f32⟩
  | .hbm, ⟨36, _⟩ => ⟨S50000x512, .f32⟩
  | .hbm, ⟨37, _⟩ => ⟨S50000x512, .f32⟩
  | .hbm, ⟨38, _⟩ => ⟨S50000x512, .f32⟩
  | .hbm, ⟨39, _⟩ => ⟨S1x50000x512, .f32⟩
  | .hbm, ⟨40, _⟩ => ⟨S50000x512, .f32⟩
  | .hbm, ⟨41, _⟩ => ⟨S1x50000x512, .f32⟩
  | .hbm, ⟨42, _⟩ => ⟨S50000x512, .f32⟩
  | .hbm, ⟨43, _⟩ => ⟨S50000x512, .f32⟩
  | .hbm, ⟨44, _⟩ => ⟨S1x50000x512, .f32⟩
  | .hbm, ⟨45, _⟩ => ⟨S50000x512, .f32⟩
  | .hbm, ⟨46, _⟩ => ⟨S1x50000x512, .f32⟩
  | .hbm, ⟨47, _⟩ => ⟨S50000x512, .f32⟩
  | .hbm, ⟨48, _⟩ => ⟨S50000x512, .f32⟩
  | .hbm, ⟨49, _⟩ => ⟨S50000x512, .f32⟩
  | .hbm, ⟨50, _⟩ => ⟨S50000x512, .f32⟩
  | .hbm, ⟨51, _⟩ => ⟨S50000x512, .f32⟩
  | .hbm, ⟨52, _⟩ => ⟨S50000x512, .f32⟩
  | .hbm, ⟨53, _⟩ => ⟨S_, .f32⟩
  | .hbm, ⟨54, _⟩ => ⟨S50000x512, .f32⟩
  | .hbm, ⟨55, _⟩ => ⟨S50000x512, .f32⟩
  | .hbm, ⟨56, _⟩ => ⟨S_, .f32⟩
  | .hbm, ⟨57, _⟩ => ⟨S8x512, .f32⟩
  | .hbm, ⟨58, _⟩ => ⟨S50000x1, .i32⟩
  | .hbm, ⟨59, _⟩ => ⟨S8x512, .f32⟩
  | .hbm, ⟨60, _⟩ => ⟨S_, .f32⟩
  | .hbm, ⟨61, _⟩ => ⟨S50000, .f32⟩
  | .hbm, ⟨62, _⟩ => ⟨S_, .f32⟩
  | .hbm, ⟨63, _⟩ => ⟨S8, .f32⟩
  | .hbm, ⟨64, _⟩ => ⟨S50000x1, .i32⟩
  | .hbm, ⟨65, _⟩ => ⟨S8, .f32⟩
  | .hbm, ⟨66, _⟩ => ⟨S8x1, .f32⟩
  | .hbm, ⟨67, _⟩ => ⟨S_, .f32⟩
  | .hbm, ⟨68, _⟩ => ⟨S8x1, .f32⟩
  | .hbm, ⟨69, _⟩ => ⟨S8x1, .f32⟩
  | .hbm, ⟨70, _⟩ => ⟨S8x512, .f32⟩
  | .hbm, ⟨71, _⟩ => ⟨S8x512, .f32⟩
  | .hbm, ⟨72, _⟩ => ⟨S_, .f32⟩
  | .hbm, ⟨73, _⟩ => ⟨S8x512, .f32⟩
  | .hbm, ⟨74, _⟩ => ⟨S8x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Proof.Points.lean ====
module

public import proofs.«01_k».proof.Proof.Gen.KernelIdeal.Value
public import Idealize.ShloMosaic.Lib.Pipeline.ValueKit
public import Idealize.ShloMosaic.Lib.Pipeline.ReadBack

@[expose] public section

/-!
What the carried buffers and the result block hold after a grid point, in terms of the printed block
computations: at the first point, at a point in the middle, at the last point.
-/

set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.KernelIdeal.Value

variable (m : (ℓ : Loc nD τ sig) → Buf (Elt Ideal) ℓ)

/-- A load of the right half of two halves stored one after the other. -/
theorem ld_right (u v : FVec Ideal S8x256 .f32) (L : List (View.Piece (Elt Ideal) S8x512 .f32)) :
    View.ld (View.canon (⟨Rect.unit (s := S8x512) ![0, 256] S8x256.size inb_S8x512_S8x256_0_256, u⟩ :: ⟨Rect.unit (s := S8x512) ![0, 0] S8x256.size inb_S8x512_S8x256_0_0, v⟩ :: L))
      (Rect.unit (s := S8x512) ![0, 256] S8x256.size inb_S8x512_S8x256_0_256) = u :=
  funext fun x => View.canon_cons_emb _ _ _ x

/-- A load of the left half of two halves stored one after the other. -/
theorem ld_left (u v : FVec Ideal S8x256 .f32) (L : List (View.Piece (Elt Ideal) S8x512 .f32)) :
    View.ld (View.canon (⟨Rect.unit (s := S8x512) ![0, 256] S8x256.size inb_S8x512_S8x256_0_256, u⟩ :: ⟨Rect.unit (s := S8x512) ![0, 0] S8x256.size inb_S8x512_S8x256_0_0, v⟩ :: L))
      (Rect.unit (s := S8x512) ![0, 0] S8x256.size inb_S8x512_S8x256_0_0) = v := by
  funext x
  refine (View.canon_cons_of_not_mem _ _ ?_).trans (View.canon_cons_emb _ _ _ x)
  intro h
  have h1 := ((Rect.mem_set_unit (inb := inb_S8x512_S8x256_0_256)).mp h 1).1
  have h2 : ((Rect.unit (s := S8x512) ![0, 0] S8x256.size inb_S8x512_S8x256_0_0).idx x 1).val = 0 + 1 * (x 1).val := rfl
  have h3 : (x 1).val < 256 := (x 1).isLt
  have h4 : (256 : ℕ) ≤ ((Rect.unit (s := S8x512) ![0, 0] S8x256.size inb_S8x512_S8x256_0_0).idx x 1).val := h1
  omega

/-- After the first point: degree 0's cosine matrix. -/
theorem first_0 (c : Dev nD) (t : Fin cfg0.N) (h0 : t.val % 10 = 0) (h1 : ¬t.val % 10 = 9) :
    (outsAt0 m c t.val t.isLt).2.1
      = k0_pay6 (View.ld (iblk m c 2 t) (Rect.unit (s := S2x512x128) ![0, 0, 0] S1x512x128.size inb_S2x512x128_S1x512x128_0_0_0)) (iblk m c 3 t) := by
  rw [outsAt0_A m c t h0 h1]
  dsimp only
  frame_open
  try simp (disch := decide) only [↓ View.readCov_skip, ↓ View.readCov_cons_toLoadRect, ↓ View.readCov_fill]
  frame_out
  try simp only [read_unread_whole]
  try rfl

/-- After the first point: degree 0's sine matrix. -/
theorem first_1 (c : Dev nD) (t : Fin cfg0.N) (h0 : t.val % 10 = 0) (h1 : ¬t.val % 10 = 9) :
    (outsAt0 m c t.val t.isLt).2.2.1
      = k0_pay7 (View.ld (iblk m c 2 t) (Rect.unit (s := S2x512x128) ![0, 0, 0] S1x512x128.size inb_S2x512x128_S1x512x128_0_0_0)) (iblk m c 4 t) := by
  rw [outsAt0_A m c t h0 h1]
  dsimp only
  frame_open
  try simp (disch := decide) only [↓ View.readCov_skip, ↓ View.readCov_cons_toLoadRect, ↓ View.readCov_fill]
  frame_out
  try simp only [read_unread_whole]
  try rfl

/-- After the first point: degree 1's cosine matrix. -/
theorem first_2 (c : Dev nD) (t : Fin cfg0.N) (h0 : t.val % 10 = 0) (h1 : ¬t.val % 10 = 9) :
    (outsAt0 m c t.val t.isLt).2.2.2.1
      = k0_pay8 (View.ld (iblk m c 2 t) (Rect.unit (s := S2x512x128) ![1, 0, 0] S1x512x128.size inb_S2x512x128_S1x512x128_1_0_0)) (iblk m c 3 t) := by
  rw [outsAt0_A m c t h0 h1]
  dsimp only
  frame_open
  try simp (disch := decide) only [↓ View.readCov_skip, ↓ View.readCov_cons_toLoadRect, ↓ View.readCov_fill]
  frame_out
  try simp only [read_unread_whole]
  try rfl

/-- After the first point: degree 1's sine matrix. -/
theorem first_3 (c : Dev nD) (t : Fin cfg0.N) (h0 : t.val % 10 = 0) (h1 : ¬t.val % 10 = 9) :
    (outsAt0 m c t.val t.isLt).2.2.2.2.1
      = k0_pay9 (View.ld (iblk m c 2 t) (Rect.unit (s := S2x512x128) ![1, 0, 0] S1x512x128.size inb_S2x512x128_S1x512x128_1_0_0)) (iblk m c 4 t) := by
  rw [outsAt0_A m c t h0 h1]
  dsimp only
  frame_open
  try simp (disch := decide) only [↓ View.readCov_skip, ↓ View.readCov_cons_toLoadRect, ↓ View.readCov_fill]
  frame_out
  try simp only [read_unread_whole]
  try rfl

/-- After the first point: the two alternating vectors. -/
theorem first_4 (c : Dev nD) (t : Fin cfg0.N) (h0 : t.val % 10 = 0) (h1 : ¬t.val % 10 = 9) :
    (outsAt0 m c t.val t.isLt).2.2.2.2.2.1
      = k0_pay16 k0_pay10 (k0_pay11 (View.ld (iblk m c 2 t) (Rect.unit (s := S2x512x128) ![0, 0, 0] S1x512x128.size inb_S2x512x128_S1x512x128_0_0_0))) (View.ld (iblk m c 2 t) (Rect.unit (s := S2x512x128) ![1, 0, 0] S1x512x128.size inb_S2x512x128_S1x512x128_1_0_0)) := by
  rw [outsAt0_A m c t h0 h1]
  dsimp only
  frame_open
  try simp (disch := decide) only [↓ View.readCov_skip, ↓ View.readCov_cons_toLoadRect, ↓ View.readCov_fill]
  frame_out
  try simp only [read_unread_whole]
  try rfl

/-- After the first point: the accumulator's left half. -/
theorem first_re (c : Dev nD) (t : Fin cfg0.N) (h0 : t.val % 10 = 0) (h1 : ¬t.val % 10 = 9) :
    (View.ld (outsAt0 m c t.val t.isLt).2.2.2.2.2.2.1 (Rect.unit (s := S8x512) ![0, 0] S8x256.size inb_S8x512_S8x256_0_0))
      = k0_pay2 (k0_pay24 (iblk m c 0 t) (k0_pay6 (View.ld (iblk m c 2 t) (Rect.unit (s := S2x512x128) ![0, 0, 0] S1x512x128.size inb_S2x512x128_S1x512x128_0_0_0)) (iblk m c 3 t)) (k0_pay7 (View.ld (iblk m c 2 t) (Rect.unit (s := S2x512x128) ![0, 0, 0] S1x512x128.size inb_S2x512x128_S1x512x128_0_0_0)) (iblk m c 4 t)) (k0_pay8 (View.ld (iblk m c 2 t) (Rect.unit (s := S2x512x128) ![1, 0, 0] S1x512x128.size inb_S2x512x128_S1x512x128_1_0_0)) (iblk m c 3 t)) (k0_pay9 (View.ld (iblk m c 2 t) (Rect.unit (s := S2x512x128) ![1, 0, 0] S1x512x128.size inb_S2x512x128_S1x512x128_1_0_0)) (iblk m c 4 t))) (iblk m c 1 t) (View.ld (k0_pay17 (F := Ideal)) (Rect.unit (s := S8x512) ![0, 0] S8x256.size inb_S8x512_S8x256_0_0)) := by
  rw [outsAt0_A m c t h0 h1]
  dsimp only
  frame_open
  try simp (disch := decide) only [↓ View.readCov_skip, ↓ View.readCov_cons_toLoadRect, ↓ View.readCov_fill]
  frame_out
  try simp only [read_unread_whole]
  exact ld_left _ _ _

/-- After the first point: the accumulator's right half. -/
theorem first_im (c : Dev nD) (t : Fin cfg0.N) (h0 : t.val % 10 = 0) (h1 : ¬t.val % 10 = 9) :
    (View.ld (outsAt0 m c t.val t.isLt).2.2.2.2.2.2.1 (Rect.unit (s := S8x512) ![0, 256] S8x256.size inb_S8x512_S8x256_0_256))
      = k0_pay3 (k0_pay25 (iblk m c 0 t) (k0_pay6 (View.ld (iblk m c 2 t) (Rect.unit (s := S2x512x128) ![0, 0, 0] S1x512x128.size inb_S2x512x128_S1x512x128_0_0_0)) (iblk m c 3 t)) (k0_pay7 (View.ld (iblk m c 2 t) (Rect.unit (s := S2x512x128) ![0, 0, 0] S1x512x128.size inb_S2x512x128_S1x512x128_0_0_0)) (iblk m c 4 t)) (k0_pay8 (View.ld (iblk m c 2 t) (Rect.unit (s := S2x512x128) ![1, 0, 0] S1x512x128.size inb_S2x512x128_S1x512x128_1_0_0)) (iblk m c 3 t)) (k0_pay9 (View.ld (iblk m c 2 t) (Rect.unit (s := S2x512x128) ![1, 0, 0] S1x512x128.size inb_S2x512x128_S1x512x128_1_0_0)) (iblk m c 4 t))) (iblk m c 1 t) (View.ld (k0_pay17 (F := Ideal)) (Rect.unit (s := S8x512) ![0, 256] S8x256.size inb_S8x512_S8x256_0_256)) := by
  rw [outsAt0_A m c t h0 h1]
  dsimp only
  frame_open
  try simp (disch := decide) only [↓ View.readCov_skip, ↓ View.readCov_cons_toLoadRect, ↓ View.readCov_fill]
  frame_out
  try simp only [read_unread_whole]
  exact ld_right _ _ _

/-- After the first point: the middle bins and the counts. -/
theorem first_mid (c : Dev nD) (t : Fin cfg0.N) (h0 : t.val % 10 = 0) (h1 : ¬t.val % 10 = 9) :
    (outsAt0 m c t.val t.isLt).2.2.2.2.2.2.2
      = k0_pay4 (k0_pay26 (iblk m c 0 t) (View.ld (k0_pay16 k0_pay10 (k0_pay11 (View.ld (iblk m c 2 t) (Rect.unit (s := S2x512x128) ![0, 0, 0] S1x512x128.size inb_S2x512x128_S1x512x128_0_0_0))) (View.ld (iblk m c 2 t) (Rect.unit (s := S2x512x128) ![1, 0, 0] S1x512x128.size inb_S2x512x128_S1x512x128_1_0_0))) (Rect.unit (s := S2x128) ![0, 0] S1x128.size inb_S2x128_S1x128_0_0)) (View.ld (k0_pay16 k0_pay10 (k0_pay11 (View.ld (iblk m c 2 t) (Rect.unit (s := S2x512x128) ![0, 0, 0] S1x512x128.size inb_S2x512x128_S1x512x128_0_0_0))) (View.ld (iblk m c 2 t) (Rect.unit (s := S2x512x128) ![1, 0, 0] S1x512x128.size inb_S2x512x128_S1x512x128_1_0_0))) (Rect.unit (s := S2x128) ![1, 0] S1x128.size inb_S2x128_S1x128_1_0))) (iblk m c 1 t) (k0_pay18 (F := Ideal)) := by
  rw [outsAt0_A m c t h0 h1]
  dsimp only
  frame_open
  try simp (disch := decide) only [↓ View.readCov_skip, ↓ View.readCov_cons_toLoadRect, ↓ View.readCov_fill]
  frame_out
  try simp only [read_unread_whole]
  try rfl

/-- A later point keeps degree 0's cosine matrix. -/
theorem next_0 (c : Dev nD) (t : Fin cfg0.N) (h0 : ¬t.val % 10 = 0) (h1 : ¬t.val % 10 = 9) :
    (outsAt0 m c t.val t.isLt).2.1
      = (outsAt0 m c (t.val - 1) (Nat.lt_of_le_of_lt (Nat.sub_le _ _) t.isLt)).2.1 := by
  rw [outsAt0_B m c t h0 h1]
  dsimp only
  rfl

/-- A later point keeps degree 0's sine matrix. -/
theorem next_1 (c : Dev nD) (t : Fin cfg0.N) (h0 : ¬t.val % 10 = 0) (h1 : ¬t.val % 10 = 9) :
    (outsAt0 m c t.val t.isLt).2.2.1
      = (outsAt0 m c (t.val - 1) (Nat.lt_of_le_of_lt (Nat.sub_le _ _) t.isLt)).2.2.1 := by
  rw [outsAt0_B m c t h0 h1]
  dsimp only
  rfl

/-- A later point keeps degree 1's cosine matrix. -/
theorem next_2 (c : Dev nD) (t : Fin cfg0.N) (h0 : ¬t.val % 10 = 0) (h1 : ¬t.val % 10 = 9) :
    (outsAt0 m c t.val t.isLt).2.2.2.1
      = (outsAt0 m c (t.val - 1) (Nat.lt_of_le_of_lt (Nat.sub_le _ _) t.isLt)).2.2.2.1 := by
  rw [outsAt0_B m c t h0 h1]
  dsimp only
  rfl

/-- A later point keeps degree 1's sine matrix. -/
theorem next_3 (c : Dev nD) (t : Fin cfg0.N) (h0 : ¬t.val % 10 = 0) (h1 : ¬t.val % 10 = 9) :
    (outsAt0 m c t.val t.isLt).2.2.2.2.1
      = (outsAt0 m c (t.val - 1) (Nat.lt_of_le_of_lt (Nat.sub_le _ _) t.isLt)).2.2.2.2.1 := by
  rw [outsAt0_B m c t h0 h1]
  dsimp only
  rfl

/-- A later point keeps the two alternating vectors. -/
theorem next_4 (c : Dev nD) (t : Fin cfg0.N) (h0 : ¬t.val % 10 = 0) (h1 : ¬t.val % 10 = 9) :
    (outsAt0 m c t.val t.isLt).2.2.2.2.2.1
      = (outsAt0 m c (t.val - 1) (Nat.lt_of_le_of_lt (Nat.sub_le _ _) t.isLt)).2.2.2.2.2.1 := by
  rw [outsAt0_B m c t h0 h1]
  dsimp only
  rfl

/-- After a later point: the accumulator's left half. -/
theorem next_re (c : Dev nD) (t : Fin cfg0.N) (h0 : ¬t.val % 10 = 0) (h1 : ¬t.val % 10 = 9) :
    (View.ld (outsAt0 m c t.val t.isLt).2.2.2.2.2.2.1 (Rect.unit (s := S8x512) ![0, 0] S8x256.size inb_S8x512_S8x256_0_0))
      = k0_pay2 (k0_pay24 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) (iblk m c 1 t) (View.ld (outsAt0 m c (t.val - 1) (Nat.lt_of_le_of_lt (Nat.sub_le _ _) t.isLt)).2.2.2.2.2.2.1 (Rect.unit (s := S8x512) ![0, 0] S8x256.size inb_S8x512_S8x256_0_0)) := by
  rw [outsAt0_B m c t h0 h1]
  dsimp only
  frame_open
  try simp (disch := decide) only [↓ View.readCov_skip, ↓ View.readCov_cons_toLoadRect, ↓ View.readCov_fill]
  frame_out
  try simp only [read_unread_whole]
  exact ld_left _ _ _

/-- After a later point: the accumulator's right half. -/
theorem next_im (c : Dev nD) (t : Fin cfg0.N) (h0 : ¬t.val % 10 = 0) (h1 : ¬t.val % 10 = 9) :
    (View.ld (outsAt0 m c t.val t.isLt).2.2.2.2.2.2.1 (Rect.unit (s := S8x512) ![0, 256] S8x256.size inb_S8x512_S8x256_0_256))
      = k0_pay3 (k0_pay25 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) (iblk m c 1 t) (View.ld (outsAt0 m c (t.val - 1) (Nat.lt_of_le_of_lt (Nat.sub_le _ _) t.isLt)).2.2.2.2.2.2.1 (Rect.unit (s := S8x512) ![0, 256] S8x256.size inb_S8x512_S8x256_0_256)) := by
  rw [outsAt0_B m c t h0 h1]
  dsimp only
  frame_open
  try simp (disch := decide) only [↓ View.readCov_skip, ↓ View.readCov_cons_toLoadRect, ↓ View.readCov_fill]
  frame_out
  try simp only [read_unread_whole]
  exact ld_right _ _ _

/-- After a later point: the middle bins and the counts. -/
theorem next_mid (c : Dev nD) (t : Fin cfg0.N) (h0 : ¬t.val % 10 = 0) (h1 : ¬t.val % 10 = 9) :
    (outsAt0 m c t.val t.isLt).2.2.2.2.2.2.2
      = k0_pay4 (k0_pay26 (iblk m c 0 t) (View.ld (outsAt0 m c (t.val - 1) (Nat.lt_of_le_of_lt (Nat.sub_le _ _) t.isLt)).2.2.2.2.2.1 (Rect.unit (s := S2x128) ![0, 0] S1x128.size inb_S2x128_S1x128_0_0)) (View.ld (outsAt0 m c (t.val - 1) (Nat.lt_of_le_of_lt (Nat.sub_le _ _) t.isLt)).2.2.2.2.2.1 (Rect.unit (s := S2x128) ![1, 0] S1x128.size inb_S2x128_S1x128_1_0))) (iblk m c 1 t) (outsAt0 m c (t.val - 1) (Nat.lt_of_le_of_lt (Nat.sub_le _ _) t.isLt)).2.2.2.2.2.2.2 := by
  rw [outsAt0_B m c t h0 h1]
  dsimp only
  frame_open
  try simp (disch := decide) only [↓ View.readCov_skip, ↓ View.readCov_cons_toLoadRect, ↓ View.readCov_fill]
  frame_out
  try simp only [read_unread_whole]
  try rfl

/-- The block the last point writes. -/
theorem last_out (c : Dev nD) (t : Fin cfg0.N) (h0 : ¬t.val % 10 = 0) (h1 : t.val % 10 = 9) :
    (outsAt0 m c t.val t.isLt).1
      = k0_pay5 k0_pay13 (k0_pay14 (k0_pay2 (k0_pay24 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) (iblk m c 1 t) (View.ld (outsAt0 m c (t.val - 1) (Nat.lt_of_le_of_lt (Nat.sub_le _ _) t.isLt)).2.2.2.2.2.2.1 (Rect.unit (s := S8x512) ![0, 0] S8x256.size inb_S8x512_S8x256_0_0))) (iblk m c 5 t)) (k0_pay15 (k0_pay3 (k0_pay25 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1) (iblk m c 1 t) (View.ld (outsAt0 m c (t.val - 1) (Nat.lt_of_le_of_lt (Nat.sub_le _ _) t.isLt)).2.2.2.2.2.2.1 (Rect.unit (s := S8x512) ![0, 256] S8x256.size inb_S8x512_S8x256_0_256))) (iblk m c 6 t)) (View.ld (k0_pay4 (k0_pay26 (iblk m c 0 t) (View.ld (outsAt0 m c (t.val - 1) (Nat.lt_of_le_of_lt (Nat.sub_le _ _) t.isLt)).2.2.2.2.2.1 (Rect.unit (s := S2x128) ![0, 0] S1x128.size inb_S2x128_S1x128_0_0)) (View.ld (outsAt0 m c (t.val - 1) (Nat.lt_of_le_of_lt (Nat.sub_le _ _) t.isLt)).2.2.2.2.2.1 (Rect.unit (s := S2x128) ![1, 0] S1x128.size inb_S2x128_S1x128_1_0))) (iblk m c 1 t) (outsAt0 m c (t.val - 1) (Nat.lt_of_le_of_lt (Nat.sub_le _ _) t.isLt)).2.2.2.2.2.2.2) (Rect.unit (s := S8x2) ![0, 0] S8x1.size inb_S8x2_S8x1_0_0)) (View.ld (k0_pay4 (k0_pay26 (iblk m c 0 t) (View.ld (outsAt0 m c (t.val - 1) (Nat.lt_of_le_of_lt (Nat.sub_le _ _) t.isLt)).2.2.2.2.2.1 (Rect.unit (s := S2x128) ![0, 0] S1x128.size inb_S2x128_S1x128_0_0)) (View.ld (outsAt0 m c (t.val - 1) (Nat.lt_of_le_of_lt (Nat.sub_le _ _) t.isLt)).2.2.2.2.2.1 (Rect.unit (s := S2x128) ![1, 0] S1x128.size inb_S2x128_S1x128_1_0))) (iblk m c 1 t) (outsAt0 m c (t.val - 1) (Nat.lt_of_le_of_lt (Nat.sub_le _ _) t.isLt)).2.2.2.2.2.2.2) (Rect.unit (s := S8x2) ![0, 1] S8x1.size inb_S8x2_S8x1_0_1)) := by
  rw [outsAt0_C m c t h0 h1]
  dsimp only
  frame_open
  try simp (disch := decide) only [↓ View.readCov_skip, ↓ View.readCov_cons_toLoadRect, ↓ View.readCov_fill]
  frame_out
  try simp only [read_unread_whole]
  try rfl

end Cert.KernelIdeal.Points
-- ==== Proof.Spectrum.lean ====
module

public import Mathlib.Analysis.SpecialFunctions.Trigonometric.Basic
public import Mathlib.Algebra.BigOperators.Fin
public import Mathlib.Tactic.Ring
public import Mathlib.Tactic.Linarith

@[expose] public section

/-!
The arithmetic of the sketch over the real numbers: one atom's spectrum from its count sketches, the
inverse transform by its definition, and the same inverse transform from half of the spectrum.
-/

noncomputable section

namespace Cert.Sketch

/-- The cosine of `n` steps of a 512th of a full turn. -/
def co (n : ℕ) : ℝ := Real.cos ((n : ℝ) * (2 * Real.pi / 512))

/-- The sine of `n` steps of a 512th of a full turn. -/
def si (n : ℕ) : ℝ := Real.sin ((n : ℝ) * (2 * Real.pi / 512))

/-- Plus one at even places, minus one at odd places. -/
def alt (n : ℕ) : ℝ := if n % 2 = 0 then 1 else -1

/-- The weight of a bin of the half spectrum: bin 0 stands for itself, the others also for their mirror images. -/
def wt (k : ℕ) : ℝ := if k = 0 then 1 else 2

/-- Whole turns drop out of the cosine. -/
theorem co_add (n q : ℕ) : co (n + 512 * q) = co n := by
  unfold co
  rw [show ((n + 512 * q : ℕ) : ℝ) * (2 * Real.pi / 512) = (n : ℝ) * (2 * Real.pi / 512) + (q : ℝ) * (2 * Real.pi) by
    push_cast; ring]
  exact Real.cos_add_nat_mul_two_pi _ _

/-- Whole turns drop out of the sine. -/
theorem si_add (n q : ℕ) : si (n + 512 * q) = si n := by
  unfold si
  rw [show ((n + 512 * q : ℕ) : ℝ) * (2 * Real.pi / 512) = (n : ℝ) * (2 * Real.pi / 512) + (q : ℝ) * (2 * Real.pi) by
    push_cast; ring]
  exact Real.sin_add_nat_mul_two_pi _ _

/-- The cosine table may be computed from the product's remainder. -/
theorem co_mod (n : ℕ) : co (n % 512) = co n := by
  conv_rhs => rw [← Nat.mod_add_div n 512]
  exact (co_add _ _).symm

/-- The sine table may be computed from the product's remainder. -/
theorem si_mod (n : ℕ) : si (n % 512) = si n := by
  conv_rhs => rw [← Nat.mod_add_div n 512]
  exact (si_add _ _).symm

/-- Mirrored angles have one cosine. -/
theorem co_mirror (a b q : ℕ) (h : a + b = 512 * q) : co a = co b := by
  have hR : (a : ℝ) = 512 * q - b := by
    have : ((a + b : ℕ) : ℝ) = ((512 * q : ℕ) : ℝ) := by rw [h]
    push_cast at this; linarith
  unfold co
  rw [hR, show (512 * (q : ℝ) - b) * (2 * Real.pi / 512) = (q : ℝ) * (2 * Real.pi) - (b : ℝ) * (2 * Real.pi / 512) by ring]
  exact Real.cos_nat_mul_two_pi_sub _ _

/-- Mirrored angles have opposite sines. -/
theorem si_mirror (a b q : ℕ) (h : a + b = 512 * q) : si a = -si b := by
  have hR : (a : ℝ) = 512 * q - b := by
    have : ((a + b : ℕ) : ℝ) = ((512 * q : ℕ) : ℝ) := by rw [h]
    push_cast at this; linarith
  unfold si
  rw [hR, show (512 * (q : ℝ) - b) * (2 * Real.pi / 512) = (q : ℝ) * (2 * Real.pi) - (b : ℝ) * (2 * Real.pi / 512) by ring]
  exact Real.sin_nat_mul_two_pi_sub _ _

/-- Half turns: the cosine alternates. -/
theorem co_half (n : ℕ) : co (n * 256) = alt n := by
  have h : co (n * 256) = (-1 : ℝ) ^ n := by
    unfold co
    rw [show ((n * 256 : ℕ) : ℝ) * (2 * Real.pi / 512) = (n : ℝ) * Real.pi by push_cast; ring]
    exact Real.cos_nat_mul_pi n
  rw [h]
  unfold alt
  rcases Nat.even_or_odd n with e | o
  · rw [if_pos (Nat.even_iff.mp e), e.neg_one_pow]
  · rw [if_neg (by have := Nat.odd_iff.mp o; omega), o.neg_one_pow]

/-- Half turns: the sine vanishes. -/
theorem si_half (n : ℕ) : si (n * 256) = 0 := by
  unfold si
  rw [show ((n * 256 : ℕ) : ℝ) * (2 * Real.pi / 512) = (n : ℝ) * Real.pi by push_cast; ring]
  exact Real.sin_nat_mul_pi n

/-- No turn: the sine vanishes. -/
theorem si_zero : si 0 = 0 := by simp [si]

variable (x : ℕ → ℝ) (c c' : ℕ → ℕ → ℝ)

/-- One atom's count sketch: entry `r`. -/
def sk (r : ℕ) : ℝ := ∑ f : Fin 128, x f * c r f

/-- The real part of the sketch's spectrum at bin `k`. -/
def fre (k : ℕ) : ℝ := ∑ r : Fin 512, sk x c r * co (r * k)

/-- The imaginary part of the sketch's spectrum at bin `k`. -/
def fim (k : ℕ) : ℝ := -∑ r : Fin 512, sk x c r * si (r * k)

/-- The real part of the product of the two degrees' spectra. -/
def pre (k : ℕ) : ℝ := fre x c k * fre x c' k - fim x c k * fim x c' k

/-- The imaginary part of the product of the two degrees' spectra. -/
def pim (k : ℕ) : ℝ := fre x c k * fim x c' k + fim x c k * fre x c' k

/-- One atom's feature `t`: the real part of the inverse transform of the product, by its definition. -/
def zed (t : ℕ) : ℝ :=
  (∑ k : Fin 512, pre x c c' k * co (k * t) - ∑ k : Fin 512, pim x c c' k * si (k * t)) / 512

/-- The cosine matrix of one degree: the sketch and the transform in one factor. -/
def bre (f k : ℕ) : ℝ := ∑ r : Fin 512, c r f * co (r * k)

/-- The sine matrix of one degree. -/
def bim (f k : ℕ) : ℝ := 0 - ∑ r : Fin 512, c r f * si (r * k)

/-- The alternating vector of one degree. -/
def bny (f : ℕ) : ℝ := ∑ r : Fin 512, c r f * alt r

/-- The atom times the cosine matrix is the spectrum's real part. -/
theorem sum_bre (k : ℕ) : ∑ f : Fin 128, x f * bre c f k = fre x c k := by
  unfold bre fre sk
  simp only [Finset.mul_sum, Finset.sum_mul]
  rw [Finset.sum_comm]
  exact Finset.sum_congr rfl fun r _ => Finset.sum_congr rfl fun f _ => by ring

/-- The atom times the sine matrix is the spectrum's imaginary part. -/
theorem sum_bim (k : ℕ) : ∑ f : Fin 128, x f * bim c f k = fim x c k := by
  unfold bim fim sk
  simp only [zero_sub, mul_neg, Finset.sum_neg_distrib, Finset.mul_sum, Finset.sum_mul]
  rw [Finset.sum_comm]
  exact congrArg _ (Finset.sum_congr rfl fun r _ => Finset.sum_congr rfl fun f _ => by ring)

/-- The atom times the alternating vector is the spectrum's middle bin. -/
theorem sum_bny : ∑ f : Fin 128, x f * bny c f = fre x c 256 := by
  rw [← sum_bre]
  unfold bny bre
  simp only [co_half]

/-- The middle bin has no imaginary part. -/
theorem fim_half : fim x c 256 = 0 := by
  unfold fim
  simp [si_half]

/-- The real part is even in the bin. -/
theorem fre_mirror (k l : ℕ) (h : k + l = 512) : fre x c k = fre x c l := by
  unfold fre
  refine Finset.sum_congr rfl fun r _ => ?_
  rw [co_mirror (r * k) (r * l) r (by rw [← Nat.mul_add, h, Nat.mul_comm])]

/-- The imaginary part is odd in the bin. -/
theorem fim_mirror (k l : ℕ) (h : k + l = 512) : fim x c k = -fim x c l := by
  unfold fim
  rw [neg_neg, ← Finset.sum_neg_distrib]
  refine Finset.sum_congr rfl fun r _ => ?_
  rw [si_mirror (r * k) (r * l) r (by rw [← Nat.mul_add, h, Nat.mul_comm])]
  ring

/-- The summand of the inverse transform at bin `k`. -/
def term (t k : ℕ) : ℝ := pre x c c' k * co (k * t) - pim x c c' k * si (k * t)

/-- Mirrored bins contribute alike. -/
theorem term_mirror (t k l : ℕ) (h : k + l = 512) : term x c c' t k = term x c c' t l := by
  unfold term pre pim
  rw [fre_mirror x c k l h, fre_mirror x c' k l h, fim_mirror x c k l h, fim_mirror x c' k l h,
    co_mirror (k * t) (l * t) t (by rw [← Nat.add_mul, h]), si_mirror (k * t) (l * t) t (by rw [← Nat.add_mul, h])]
  ring

/-- A sum over 512 mirrored bins from its first half and its middle. -/
theorem sum_mirror (T : ℕ → ℝ) (hT : ∀ k l, k + l = 512 → T k = T l) :
    ∑ k ∈ Finset.range 512, T k = ∑ k ∈ Finset.range 256, wt k * T k + T 256 := by
  have e1 : ∑ k ∈ Finset.range 512, T k
      = ∑ k ∈ Finset.range 256, T k + ∑ k ∈ Finset.range 256, T (256 + k) := Finset.sum_range_add T 256 256
  have e2 : ∑ k ∈ Finset.range 256, T (256 + k) = ∑ k ∈ Finset.range 255, T (256 + (k + 1)) + T 256 :=
    Finset.sum_range_succ' (fun k => T (256 + k)) 255
  have e3 : ∑ k ∈ Finset.range 255, T (256 + (k + 1)) = ∑ k ∈ Finset.range 255, T (k + 1) := by
    rw [← Finset.sum_range_reflect]
    refine Finset.sum_congr rfl fun k hk => ?_
    have := Finset.mem_range.mp hk
    exact hT _ _ (by omega)
  have e4 : ∑ k ∈ Finset.range 256, T k = ∑ k ∈ Finset.range 255, T (k + 1) + T 0 := Finset.sum_range_succ' T 255
  have e5 : ∑ k ∈ Finset.range 256, wt k * T k = ∑ k ∈ Finset.range 255, 2 * T (k + 1) + T 0 := by
    rw [Finset.sum_range_succ' (fun k => wt k * T k) 255]
    simp [wt]
  rw [e1, e2, e3, e4, e5, ← Finset.mul_sum]
  ring

/-- The inverse transform from half of the spectrum: 512 times feature `t`. -/
theorem zed_half (t : ℕ) :
    512 * zed x c c' t = (∑ k : Fin 256, pre x c c' k * wt k * co (k * t) - ∑ k : Fin 256, pim x c c' k * wt k * si (k * t))
      + (fre x c 256 * fre x c' 256) * alt t := by
  have h1 : 512 * zed x c c' t = ∑ k ∈ Finset.range 512, term x c c' t k := by
    unfold zed term
    rw [Finset.sum_sub_distrib, Finset.sum_range, Finset.sum_range]
    ring
  have h2 : term x c c' t 256 = (fre x c 256 * fre x c' 256) * alt t := by
    unfold term pre pim
    rw [fim_half, fim_half, Nat.mul_comm 256 t, co_half, si_half]
    ring
  rw [h1, sum_mirror _ (fun k l h => term_mirror x c c' t k l h), h2, Finset.sum_range, ← Finset.sum_sub_distrib]
  congr 1
  refine Finset.sum_congr rfl fun k _ => ?_
  unfold term
  ring

/-- Sums over atoms and bins exchange: the half spectra added over atoms, then transformed, give the added features.
    `e` is the weight with which each atom enters. -/
theorem sum_zed {ι : Type} (N : Finset ι) (e : ι → ℝ) (X : ι → ℕ → ℝ) (t : ℕ) :
    (∑ k : Fin 256, (∑ n ∈ N, e n * pre (X n) c c' k) * wt k * co (k * t)
        - ∑ k : Fin 256, (∑ n ∈ N, e n * pim (X n) c c' k) * wt k * si (k * t))
      + (∑ n ∈ N, e n * (fre (X n) c 256 * fre (X n) c' 256)) * alt t
      = 512 * ∑ n ∈ N, e n * zed (X n) c c' t := by
  have h : 512 * ∑ n ∈ N, e n * zed (X n) c c' t = ∑ n ∈ N, e n * (512 * zed (X n) c c' t) := by
    rw [Finset.mul_sum]; exact Finset.sum_congr rfl fun n _ => by ring
  rw [h]
  simp only [zed_half, mul_add, mul_sub, Finset.sum_add_distrib, Finset.sum_sub_distrib, Finset.mul_sum, Finset.sum_mul]
  rw [Finset.sum_comm (s := N), Finset.sum_comm (s := N)]
  congr 1
  · congr 1
    · exact Finset.sum_congr rfl fun k _ => Finset.sum_congr rfl fun n _ => by ring
    · exact Finset.sum_congr rfl fun k _ => Finset.sum_congr rfl fun n _ => by ring
  · exact Finset.sum_congr rfl fun n _ => by ring

end Cert.Sketch

end
-- ==== Proof.Reals.lean ====
module

public import proofs.«01_k».proof.Proof.Spectrum
public import Idealize.ShloMosaic.Lib.Pointwise
public import Idealize.ShloMosaic.Lib.Routing.Words

@[expose] public section

/-!
Extended reals that are reals: sums, the literals the two programs use, and the small word computations
(parity, first bin, species) as reals.
-/

set_option maxRecDepth 16384

noncomputable section

open Idealize.ShloMosaic

namespace Cert.Sketch

/-- An array of two axes holds the reals of `f`. -/
def Holds2 {n k : ℕ} {φ : FTy} (v : FVec Ideal ⟨2, ![n, k]⟩ φ) (f : ℕ → ℕ → ℝ) : Prop :=
  ∀ (i : Fin n) (j : Fin k), v (ix2 i j) = ((f i j : ℝ) : EReal)

/-- An array of three axes, the first of length one, holds the reals of `f`. -/
def Holds3 {n k : ℕ} {φ : FTy} (v : FVec Ideal ⟨3, ![1, n, k]⟩ φ) (f : ℕ → ℕ → ℝ) : Prop :=
  ∀ (i : Fin n) (j : Fin k), v (ix3 0 i j) = ((f i j : ℝ) : EReal)

/-- A finite sum of reals, read as an extended real. -/
theorem coe_sum {ι : Type} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) f s).symm

/-- A quotient of reals, read as an extended real. -/
theorem coe_div (a b : ℝ) (h : b ≠ 0) : Ideal.div (a : EReal) (b : EReal) = ((a / b : ℝ) : EReal) := by
  rw [Ideal.div_coe h, ← EReal.coe_mul, mul_one_div]

/-- The literal 1. -/
theorem bits_one : Ideal.ofBits .f32 0x3F800000#32 = ((1 : ℝ) : EReal) := by
  simp [Ideal.ofBits, Ideal.ieee]; rw [← EReal.coe_mul]; norm_num

/-- The literal 2. -/
theorem bits_two : Ideal.ofBits .f32 0x40000000#32 = ((2 : ℝ) : EReal) := by
  simp [Ideal.ofBits, Ideal.ieee]; rw [← EReal.coe_mul]; norm_num

/-- The literal 8. -/
theorem bits_eight : Ideal.ofBits .f32 0x41000000#32 = ((8 : ℝ) : EReal) := by
  simp [Ideal.ofBits, Ideal.ieee]; rw [← EReal.coe_mul]; norm_num

/-- The literal 512. -/
theorem bits_512 : Ideal.ofBits .f32 0x44000000#32 = ((512 : ℝ) : EReal) := by
  simp [Ideal.ofBits, Ideal.ieee]; rw [← EReal.coe_mul]; norm_num

/-- The literal 4096. -/
theorem bits_4096 : Ideal.ofBits .f32 0x45800000#32 = ((4096 : ℝ) : EReal) := by
  simp [Ideal.ofBits, Ideal.ieee]; rw [← EReal.coe_mul]; norm_num

/-- The literal -1. -/
theorem bits_neg : Ideal.ofBits .f32 0xBF800000#32 = ((-1 : ℝ) : EReal) := by
  simp [Ideal.ofBits, Ideal.ieee]; rw [← EReal.coe_mul]; norm_num

/-- Pi, computed as the arc whose cosine is -1. -/
theorem acos_neg : Ideal.acos ((-1 : ℝ) : EReal) = ((Real.pi : ℝ) : EReal) := by
  rw [Ideal.acos_coe, if_pos ⟨le_refl _, by norm_num⟩, Real.arccos_neg_one]

/-- The step of the tables: two pi over 512. -/
theorem step_eq : Ideal.div (Ideal.ofBits .f32 0x40000000#32 * Ideal.acos (Ideal.ofBits .f32 0xBF800000#32))
    (Ideal.ofBits .f32 0x44000000#32) = ((2 * Real.pi / 512 : ℝ) : EReal) := by
  rw [bits_two, bits_neg, bits_512, acos_neg, ← EReal.coe_mul, coe_div _ _ (by norm_num)]

/-- One where the species word is `s`, zero elsewhere. -/
def hot (w : BitVec 32) (s : ℕ) : ℝ := if w = BitVec.ofNat 32 s then 1 else 0

/-- Comparing with an unequal word gives the zero bit. -/
theorem cmp_ne (a b : BitVec 32) (h : ¬a = b) : IntOp.cmpi CmpIPredicate.eq a b = 0#1 := by
  unfold IntOp.cmpi
  rw [show (a == b) = false from beq_eq_false_iff_ne.mpr h]
  rfl

/-- Comparing with an equal word gives the one bit. -/
theorem cmp_eq (a : BitVec 32) : IntOp.cmpi CmpIPredicate.eq a a = 1#1 := by
  unfold IntOp.cmpi
  rw [beq_self_eq_true]
  rfl

/-- The converted comparison bit is the one-hot value. -/
theorem hot_bit (w : BitVec 32) (s : ℕ) :
    (FloatOps.sitofp (F := Ideal) FTy.f32 (BitVec.setWidth 32 (IntOp.cmpi CmpIPredicate.eq (BitVec.ofNat 32 s) w)) : EReal)
      = ((hot w s : ℝ) : EReal) := by
  unfold hot
  by_cases h : w = BitVec.ofNat 32 s
  · rw [if_pos h, h, cmp_eq]
    change (((BitVec.setWidth 32 1#1).toInt : ℝ) : EReal) = _
    norm_num
  · rw [if_neg h, cmp_ne _ _ fun e => h e.symm]
    change (((BitVec.setWidth 32 0#1).toInt : ℝ) : EReal) = _
    norm_num

/-- The parity sign, selected on the word of the floored remainder by 2. -/
theorem alt_word (s : Fin 512) :
    Scalar.select
      (IntOp.cmpi CmpIPredicate.eq
        (Scalar.select
          (IntOp.andi
            (IntOp.xori
              (IntOp.cmpi CmpIPredicate.slt
                (IntOp.remsi ArithUnit.vector (BitVec.ofNat 32 s)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 s)
                (Scalar.select (Scalar.cmpi CmpIPredicate.eq 2#32 0#32) 1#32 2#32))
              0#32))
          (IntOp.addi
            (IntOp.remsi ArithUnit.vector (BitVec.ofNat 32 s)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 s)
            (Scalar.select (Scalar.cmpi CmpIPredicate.eq 2#32 0#32) 1#32 2#32)))
        0#32)
      (1 : EReal) (Ideal.ofBits FTy.f32 3212836864#32) = ((alt s : ℝ) : EReal) := by
  have e2 : (Scalar.select (Scalar.cmpi CmpIPredicate.eq 2#32 0#32) 1#32 2#32) = BitVec.ofNat 32 2 := by decide
  rw [e2, Routing.remsi_word _ (by have := s.isLt; omega) (by omega) (by omega), show (3212836864#32 : BitVec 32) = 0xBF800000#32 from rfl, bits_neg]
  unfold alt
  rcases Nat.mod_two_eq_zero_or_one s with h | h
  · rw [h, if_pos rfl]; rfl
  · rw [h, if_neg (by decide)]; rfl

/-- The bin's weight, selected on the word of the bin. -/
theorem wt_word (k : Fin 256) :
    Scalar.select (IntOp.cmpi CmpIPredicate.eq (BitVec.ofNat 32 k) 0#32) (1 : EReal) (Ideal.ofBits FTy.f32 1073741824#32)
      = ((wt k : ℝ) : EReal) := by
  rw [show (1073741824#32 : BitVec 32) = 0x40000000#32 from rfl, bits_two]
  unfold wt
  by_cases h : (k : ℕ) = 0
  · rw [h, if_pos rfl]; rfl
  · rw [if_neg h]
    have h' : ¬ BitVec.ofNat 32 k = 0#32 := by
      intro e
      have := congrArg BitVec.toNat e
      simp at this
      have := k.isLt
      omega
    rw [cmp_ne _ _ h']; rfl

end Cert.Sketch
-- ==== Proof.Pay.lean ====
module

public import proofs.«01_k».proof.Proof.Gen.KernelIdeal.Skeleton
public import proofs.«01_k».proof.Proof.Reals

@[expose] public section

/-!
What one grid point's block computations give on arrays whose elements are real numbers: each printed
block term, read at an index, is the corresponding real expression.
-/

set_option maxRecDepth 16384

noncomputable section

open Idealize.ShloMosaic

namespace Cert.KernelIdeal.Pay

open Cert.KernelIdeal Cert.KernelIdeal.Gen Cert.Sketch

/-- The one-hot rows of the block's species words. -/
theorem pay1 (v : IVec S1x1x5000 32) (s : Fin 8) (q : Fin 5000) :
    k0_pay1 (F := Ideal) v (ix2 s q) = ((hot (v (ix3 0 0 q)) s : ℝ) : EReal) := by
  pointwise [k0_pay1]
  exact hot_bit _ _

/-- The block's contribution to the real half of the accumulator. -/
theorem pay2 (z : FVec Ideal S5000x256 .bf16) (v : IVec S1x1x5000 32) (a : FVec Ideal S8x256 .f32)
    {zr ar : ℕ → ℕ → ℝ} (hz : Holds2 z zr) (ha : Holds2 a ar) :
    Holds2 (k0_pay2 (F := Ideal) z v a) fun s k => ar s k + ∑ q : Fin 5000, hot (v (ix3 0 0 q)) s * zr q k := by
  intro s k
  pointwise [k0_pay2]
  simp only [pay1, ha _ _, hz _ _, ← EReal.coe_mul, coe_sum, ← EReal.coe_add]

/-- The block's contribution to the imaginary half of the accumulator. -/
theorem pay3 (z : FVec Ideal S5000x256 .bf16) (v : IVec S1x1x5000 32) (a : FVec Ideal S8x256 .f32)
    {zr ar : ℕ → ℕ → ℝ} (hz : Holds2 z zr) (ha : Holds2 a ar) :
    Holds2 (k0_pay3 (F := Ideal) z v a) fun s k => ar s k + ∑ q : Fin 5000, hot (v (ix3 0 0 q)) s * zr q k := by
  intro s k
  pointwise [k0_pay3]
  simp only [pay1, ha _ _, hz _ _, ← EReal.coe_mul, coe_sum, ← EReal.coe_add]

/-- The block's contribution to the middle bin and to the species counts. -/
theorem pay4 (z : FVec Ideal S5000x2 .bf16) (v : IVec S1x1x5000 32) (a : FVec Ideal S8x2 .f32)
    {zr ar : ℕ → ℕ → ℝ} (hz : Holds2 z zr) (ha : Holds2 a ar) :
    Holds2 (k0_pay4 (F := Ideal) z v a) fun s k => ar s k + ∑ q : Fin 5000, hot (v (ix3 0 0 q)) s * zr q k := by
  intro s k
  pointwise [k0_pay4]
  simp only [pay1, ha _ _, hz _ _, ← EReal.coe_mul, coe_sum, ← EReal.coe_add]

/-- The result block from the two half transforms, the middle bin and the counts. -/
theorem pay5 (p : FVec Ideal S1x512 .f32) (u w : FVec Ideal S8x512 .f32) (n d : FVec Ideal S8x1 .f32)
    {pr ur wr nr dr : ℕ → ℕ → ℝ} (hp : Holds2 p pr) (hu : Holds2 u ur) (hw : Holds2 w wr) (hn : Holds2 n nr)
    (hd : Holds2 d dr) (h0 : ∀ s : Fin 8, (dr s 0 + 1) * 4096 ≠ 0) :
    Holds2 (k0_pay5 (F := Ideal) p u w n d) fun s t => ((ur s t - wr s t) + nr s 0 * pr 0 t) / ((dr s 0 + 1) * 4096) := by
  intro s t
  pointwise [k0_pay5]
  rw [hp _ _, hu _ _, hw _ _, hn _ _, hd _ _, show (1166016512#32 : BitVec 32) = 0x45800000#32 from rfl, bits_4096]
  simp only [← EReal.coe_one, ← EReal.coe_mul, ← EReal.coe_add, ← EReal.coe_sub]
  exact coe_div _ _ (h0 s)

/-- Degree 0's cosine matrix: its count sketch against the cosine table. -/
theorem pay6 (c : FVec Ideal S1x512x128 .f32) (w : FVec Ideal S512x256 .f32)
    {cr wr : ℕ → ℕ → ℝ} (hc : Holds3 c cr) (hw : Holds2 w wr) :
    Holds2 (k0_pay6 (F := Ideal) c w) fun f k => ∑ r : Fin 512, cr r f * wr r k := by
  intro f k
  pointwise [k0_pay6]
  simp only [hc _ _, hw _ _, ← EReal.coe_mul, coe_sum]

/-- Degree 0's sine matrix: its count sketch against the sine table. -/
theorem pay7 (c : FVec Ideal S1x512x128 .f32) (w : FVec Ideal S512x256 .f32)
    {cr wr : ℕ → ℕ → ℝ} (hc : Holds3 c cr) (hw : Holds2 w wr) :
    Holds2 (k0_pay7 (F := Ideal) c w) fun f k => 0 - ∑ r : Fin 512, cr r f * wr r k := by
  intro f k
  pointwise [k0_pay7]
  simp only [hc _ _, hw _ _, ← EReal.coe_mul, coe_sum, ← EReal.coe_zero, ← EReal.coe_sub]

/-- Degree 1's cosine matrix: its count sketch against the cosine table. -/
theorem pay8 (c : FVec Ideal S1x512x128 .f32) (w : FVec Ideal S512x256 .f32)
    {cr wr : ℕ → ℕ → ℝ} (hc : Holds3 c cr) (hw : Holds2 w wr) :
    Holds2 (k0_pay8 (F := Ideal) c w) fun f k => ∑ r : Fin 512, cr r f * wr r k := by
  intro f k
  pointwise [k0_pay8]
  simp only [hc _ _, hw _ _, ← EReal.coe_mul, coe_sum]

/-- Degree 1's sine matrix: its count sketch against the sine table. -/
theorem pay9 (c : FVec Ideal S1x512x128 .f32) (w : FVec Ideal S512x256 .f32)
    {cr wr : ℕ → ℕ → ℝ} (hc : Holds3 c cr) (hw : Holds2 w wr) :
    Holds2 (k0_pay9 (F := Ideal) c w) fun f k => 0 - ∑ r : Fin 512, cr r f * wr r k := by
  intro f k
  pointwise [k0_pay9]
  simp only [hc _ _, hw _ _, ← EReal.coe_mul, coe_sum, ← EReal.coe_zero, ← EReal.coe_sub]

/-- The alternating column. -/
theorem pay10 : Holds2 (k0_pay10 (F := Ideal)) fun r _ => alt r := by
  intro r j
  obtain rfl : j = 0 := Subsingleton.elim _ _
  pointwise [k0_pay10]
  exact alt_word r

/-- Degree 0's alternating vector. -/
theorem pay11 (c : FVec Ideal S1x512x128 .f32) {cr : ℕ → ℕ → ℝ} (hc : Holds3 c cr) :
    Holds2 (k0_pay11 (F := Ideal) c) fun _ f => ∑ r : Fin 512, cr r f * alt r := by
  intro j f
  obtain rfl : j = 0 := Subsingleton.elim _ _
  pointwise [k0_pay11]
  simp only [hc _ _, pay10 _ _, ← EReal.coe_mul, coe_sum]

/-- The bins' weights. -/
theorem pay12 : Holds2 (k0_pay12 (F := Ideal)) fun _ k => wt k := by
  intro s k
  pointwise [k0_pay12]
  exact wt_word k

/-- The alternating row. -/
theorem pay13 : Holds2 (k0_pay13 (F := Ideal)) fun _ t => alt t := by
  intro j t
  obtain rfl : j = 0 := Subsingleton.elim _ _
  pointwise [k0_pay13]
  exact alt_word t

/-- The cosine half of the inverse transform of the weighted accumulator. -/
theorem pay14 (a : FVec Ideal S8x256 .f32) (w : FVec Ideal S256x512 .f32) {ar wr : ℕ → ℕ → ℝ} (ha : Holds2 a ar)
    (hw : Holds2 w wr) :
    Holds2 (k0_pay14 (F := Ideal) a w) fun s t => ∑ k : Fin 256, ar s k * wt k * wr k t := by
  intro s t
  pointwise [k0_pay14]
  simp only [ha _ _, hw _ _, pay12 _ _, ← EReal.coe_mul, coe_sum]

/-- The sine half of the inverse transform of the weighted accumulator. -/
theorem pay15 (a : FVec Ideal S8x256 .f32) (w : FVec Ideal S256x512 .f32) {ar wr : ℕ → ℕ → ℝ} (ha : Holds2 a ar)
    (hw : Holds2 w wr) :
    Holds2 (k0_pay15 (F := Ideal) a w) fun s t => ∑ k : Fin 256, ar s k * wt k * wr k t := by
  intro s t
  pointwise [k0_pay15]
  simp only [ha _ _, hw _ _, pay12 _ _, ← EReal.coe_mul, coe_sum]

/-- The two degrees' alternating vectors, stacked. -/
theorem pay16 (b : FVec Ideal S512x1 .f32) (r0 : FVec Ideal S1x128 .f32) (c : FVec Ideal S1x512x128 .f32)
    {br rr cr : ℕ → ℕ → ℝ} (hb : Holds2 b br) (hr : Holds2 r0 rr) (hc : Holds3 c cr) :
    Holds2 (k0_pay16 (F := Ideal) b r0 c) fun d f => if d < 1 then rr 0 f else ∑ r : Fin 512, cr r f * br r 0 := by
  intro d f
  pointwise [k0_pay16]
  split
  · rename_i h
    obtain rfl : d = 0 := Fin.ext (by omega)
    exact hr 0 f
  · simp only [hc _ _, hb _ _, ← EReal.coe_mul, coe_sum]; rfl

/-- A cleared accumulator. -/
theorem pay17 : Holds2 (k0_pay17 (F := Ideal)) fun _ _ => 0 := by
  intro s k
  pointwise [k0_pay17]
  exact EReal.coe_zero.symm

/-- The cleared middle bin and counts. -/
theorem pay18 : Holds2 (k0_pay18 (F := Ideal)) fun _ _ => 0 := by
  intro s k
  pointwise [k0_pay18]
  exact EReal.coe_zero.symm

/-- The block's atoms against the cosine matrix of degree 0. -/
theorem pay20 (x : FVec Ideal S5000x128 .f32) (b : FVec Ideal S128x256 .bf16) {xr br : ℕ → ℕ → ℝ} (hx : Holds2 x xr)
    (hb : Holds2 b br) :
    Holds2 (k0_pay20 (F := Ideal) x b) fun q k => ∑ f : Fin 128, xr q f * br f k := by
  intro q k
  pointwise [k0_pay20, k0_pay19]
  simp only [hx _ _, hb _ _, ← EReal.coe_mul, coe_sum]

/-- The block's atoms against the sine matrix of degree 0. -/
theorem pay21 (x : FVec Ideal S5000x128 .f32) (b : FVec Ideal S128x256 .bf16) {xr br : ℕ → ℕ → ℝ} (hx : Holds2 x xr)
    (hb : Holds2 b br) :
    Holds2 (k0_pay21 (F := Ideal) x b) fun q k => ∑ f : Fin 128, xr q f * br f k := by
  intro q k
  pointwise [k0_pay21, k0_pay19]
  simp only [hx _ _, hb _ _, ← EReal.coe_mul, coe_sum]

/-- The block's atoms against the cosine matrix of degree 1. -/
theorem pay22 (x : FVec Ideal S5000x128 .f32) (b : FVec Ideal S128x256 .bf16) {xr br : ℕ → ℕ → ℝ} (hx : Holds2 x xr)
    (hb : Holds2 b br) :
    Holds2 (k0_pay22 (F := Ideal) x b) fun q k => ∑ f : Fin 128, xr q f * br f k := by
  intro q k
  pointwise [k0_pay22, k0_pay19]
  simp only [hx _ _, hb _ _, ← EReal.coe_mul, coe_sum]

/-- The block's atoms against the sine matrix of degree 1. -/
theorem pay23 (x : FVec Ideal S5000x128 .f32) (b : FVec Ideal S128x256 .bf16) {xr br : ℕ → ℕ → ℝ} (hx : Holds2 x xr)
    (hb : Holds2 b br) :
    Holds2 (k0_pay23 (F := Ideal) x b) fun q k => ∑ f : Fin 128, xr q f * br f k := by
  intro q k
  pointwise [k0_pay23, k0_pay19]
  simp only [hx _ _, hb _ _, ← EReal.coe_mul, coe_sum]

/-- The real part of the product of the two degrees' spectra. -/
theorem pay24 (x : FVec Ideal S5000x128 .f32) (a b c d : FVec Ideal S128x256 .bf16) {xr ar br cr dr : ℕ → ℕ → ℝ}
    (hx : Holds2 x xr) (ha : Holds2 a ar) (hb : Holds2 b br) (hc : Holds2 c cr) (hd : Holds2 d dr) :
    Holds2 (k0_pay24 (F := Ideal) x a b c d) fun q k => (∑ f : Fin 128, xr q f * ar f k) * (∑ f : Fin 128, xr q f * cr f k)
      - (∑ f : Fin 128, xr q f * br f k) * (∑ f : Fin 128, xr q f * dr f k) := by
  intro q k
  pointwise [k0_pay24]
  rw [pay20 x a hx ha, pay21 x b hx hb, pay22 x c hx hc, pay23 x d hx hd]
  simp only [← EReal.coe_mul, ← EReal.coe_sub, ← EReal.coe_add]

/-- The imaginary part of the product of the two degrees' spectra. -/
theorem pay25 (x : FVec Ideal S5000x128 .f32) (a b c d : FVec Ideal S128x256 .bf16) {xr ar br cr dr : ℕ → ℕ → ℝ}
    (hx : Holds2 x xr) (ha : Holds2 a ar) (hb : Holds2 b br) (hc : Holds2 c cr) (hd : Holds2 d dr) :
    Holds2 (k0_pay25 (F := Ideal) x a b c d) fun q k => (∑ f : Fin 128, xr q f * ar f k) * (∑ f : Fin 128, xr q f * dr f k)
      + (∑ f : Fin 128, xr q f * br f k) * (∑ f : Fin 128, xr q f * cr f k) := by
  intro q k
  pointwise [k0_pay25]
  rw [pay20 x a hx ha, pay21 x b hx hb, pay22 x c hx hc, pay23 x d hx hd]
  simp only [← EReal.coe_mul, ← EReal.coe_sub, ← EReal.coe_add]

/-- The middle bin's product, and a one that counts the atom. -/
theorem pay26 (x : FVec Ideal S5000x128 .f32) (a b : FVec Ideal S1x128 .f32) {xr ar br : ℕ → ℕ → ℝ}
    (hx : Holds2 x xr) (ha : Holds2 a ar) (hb : Holds2 b br) :
    Holds2 (k0_pay26 (F := Ideal) x a b) fun q k =>
      if k < 1 then (∑ f : Fin 128, xr q f * ar 0 f) * (∑ f : Fin 128, xr q f * br 0 f) else 1 := by
  intro q k
  pointwise [k0_pay26]
  simp only [hx _ _, ha _ _, hb _ _, ← EReal.coe_mul, coe_sum]
  split
  · rfl
  · exact EReal.coe_one.symm

end Cert.KernelIdeal.Pay
-- ==== Proof.Tables.lean ====
module

public import proofs.«01_k».proof.Proof.Gen.KernelIdeal.Value
public import proofs.«01_k».proof.Proof.Pay
public import Idealize.ShloMosaic.Lib.Pipeline.ValueKit
public import Idealize.ShloMosaic.Lib.Claim

@[expose] public section

/-!
What the kernel's windows show: the atoms' rows, their species words, the count sketches, and the
cosine and sine tables that the host line computes before the grid starts.
-/

set_option maxRecDepth 16384

noncomputable section

open Idealize.ShloMosaic Idealize.ShloMosaic.TcCoe Idealize.SL.Sem

namespace Cert.KernelIdeal.Tables

open Cert.KernelIdeal Cert.KernelIdeal.Gen Cert.KernelIdeal.Pay Cert.Sketch

variable (m : (ℓ : Loc nD τ sig) → Buf (Elt Ideal) ℓ)

/-- The table of products' remainders, as the host line writes it. -/
def remW : IVec S512x512 32 :=
  have q : IVec S_ 32 := select (cmpi .eq (constantI S_ 32 512#32) (constantI S_ 32 0#32)) (constantI S_ 32 1#32) (constantI S_ 32 512#32)
  have b : IVec S512x512 32 := broadcastInDim S512x512 ![] bcast_S_S512x512 q
  have z : IVec S512x512 32 := broadcastInDim S512x512 ![] bcast_S_S512x512 (constantI S_ 32 0#32)
  have e : IVec S512x512 32 := Host.remsi
    (muli (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))) b
  select (andi (cmpi .ne (cmpi .slt e z) (broadcastInDim S512x512 ![] bcast_S_S512x512 (cmpi .slt q (constantI S_ 32 0#32)))) (cmpi .ne e z)) (addi e b) e

/-- A remainder below 512 is not negative, so the sign correction leaves its word. -/
theorem keep_word : ∀ n : Fin 512,
    Scalar.select
      (IntOp.andi
        (IntOp.cmpi CmpIPredicate.ne (IntOp.cmpi CmpIPredicate.slt (BitVec.ofNat 32 n) 0#32)
          (IntOp.cmpi CmpIPredicate.slt 512#32 0#32))
        (IntOp.cmpi CmpIPredicate.ne (BitVec.ofNat 32 n) 0#32))
      (IntOp.addi (BitVec.ofNat 32 n) 512#32) (BitVec.ofNat 32 n) = BitVec.ofNat 32 n := by
  decide +kernel

/-- At a row and a column the table holds the word of the product's remainder by 512. -/
theorem remW_apply (r k : Fin 512) : remW (ix2 r k) = BitVec.ofNat 32 ((r * k : ℕ) % 512) := by
  pointwise [remW]
  have e2 : (Scalar.select (IntOp.cmpi CmpIPredicate.eq 512#32 0#32) 1#32 512#32) = BitVec.ofNat 32 512 := by decide
  have e3 : IntOp.muli (BitVec.ofNat 32 r) (BitVec.ofNat 32 k) = BitVec.ofNat 32 (r * k) := (BitVec.ofNat_mul _ _).symm
  have hb : (r * k : ℕ) < 2 ^ 31 := by
    have h1 := Nat.mul_le_mul (Nat.le_of_lt r.isLt) (Nat.le_of_lt k.isLt)
    omega
  rw [e2, e3, Routing.remsi_word _ hb (by omega) (by omega)]
  exact keep_word ⟨(r * k : ℕ) % 512, Nat.mod_lt _ (by omega)⟩

/-- The angle table. -/
def angW : FVec Ideal S512x512 .f32 :=
  mulf (sitofp .f32 remW) (broadcastInDim S512x512 ![] bcast_S_S512x512
    (Host.divf (mulf (constant S_ .f32 0x40000000#32) (Host.acos (constant S_ .f32 0xBF800000#32))) (constant S_ .f32 0x44000000#32)))

/-- A word below half the range converts to the real it spells. -/
theorem sitofp_word (n : ℕ) (h : n < 2 ^ 31) : (FloatOps.sitofp (F := Ideal) FTy.f32 (BitVec.ofNat 32 n) : EReal) = ((n : ℝ) : EReal) := by
  change (((BitVec.ofNat 32 n).toInt : ℝ) : EReal) = _
  rw [show (BitVec.ofNat 32 n).toInt = (n : ℤ) by
    rw [BitVec.toInt_eq_toNat_of_lt (by rw [BitVec.toNat_ofNat]; omega), BitVec.toNat_ofNat, Nat.mod_eq_of_lt (by omega)]]
  norm_num

/-- The angle at a row and a column: the product's remainder in steps of a 512th of a turn. -/
theorem angW_apply (r k : Fin 512) :
    angW (ix2 r k) = (((((r * k : ℕ) % 512 : ℕ) : ℝ) * (2 * Real.pi / 512) : ℝ) : EReal) := by
  pointwise [angW]
  rw [remW_apply, sitofp_word _ (by have := Nat.mod_lt (r * k : ℕ) (y := 512) (by omega); omega)]
  exact (congrArg _ step_eq).trans (EReal.coe_mul _ _).symm

/-- The cosine table's entry. -/
theorem cos_apply (r k : Fin 512) : Ideal.cos (angW (ix2 r k)) = ((co (r * k) : ℝ) : EReal) := by
  rw [angW_apply, Ideal.cos_coe, ← co_mod]; rfl

/-- The sine table's entry. -/
theorem sin_apply (r k : Fin 512) : Ideal.sin (angW (ix2 r k)) = ((si (r * k) : ℝ) : EReal) := by
  rw [angW_apply, Ideal.sin_coe, ← si_mod]; rfl

/-- Every window's block at a grid point: the atoms' windows move, the others stay. -/
theorem index_eq : ∀ t : Fin cfg0.N, win0_0.index t = ![t.val, 0] ∧ win0_1.index t = ![t.val, 0, 0] ∧ win0_2.index t = ![0, 0, 0]
   ∧ win0_3.index t = ![0, 0] ∧ win0_4.index t = ![0, 0] ∧ win0_5.index t = ![0, 0] ∧ win0_6.index t = ![0, 0] :=
  (by decide +kernel : ∀ t : Fin grid0.N, _)

/-- The forward cosine table, as the host line computes it. -/
theorem V_v16 (c : Dev nD) :
    (V m c main_v16 : FVec Ideal S512x256 .f32) = extractStridedSlice S512x256 ![0, 0] (Host.cos angW) slices_S512x512_S512x256_0_0 := by
  simp only [V, hostOps0, hostOps0_1, hostOps0_2, List.flatten_cons, List.flatten_nil, List.append_nil, List.cons_append, List.nil_append]
  entry_read
  simp only [StableHlo.TRef.ofBuf_toBuf]
  rfl

/-- Every grid point's block of the forward cosine table. -/
theorem blk3 (c : Dev nD) (t : Fin cfg0.N) : Holds2 (φ := .f32) (iblk m c 3 t : FVec Ideal S512x256 .f32) fun r k => co (r * k) := by
  intro r k
  have e : (iblk m c 3 t : FVec Ideal S512x256 .f32) (ix2 r k) = (V m c main_v16 : FVec Ideal S512x256 .f32) (ix2 r k) := by
    blk_ext [iblk, index_eq t]
  refine e.trans ?_
  rw [V_v16]
  pointwise
  exact cos_apply r ⟨k, _⟩

/-- The forward sine table, as the host line computes it. -/
theorem V_v17 (c : Dev nD) :
    (V m c main_v17 : FVec Ideal S512x256 .f32) = extractStridedSlice S512x256 ![0, 0] (Host.sin angW) slices_S512x512_S512x256_0_0 := by
  simp only [V, hostOps0, hostOps0_1, hostOps0_2, List.flatten_cons, List.flatten_nil, List.append_nil, List.cons_append, List.nil_append]
  entry_read
  simp only [StableHlo.TRef.ofBuf_toBuf]
  rfl

/-- Every grid point's block of the forward sine table. -/
theorem blk4 (c : Dev nD) (t : Fin cfg0.N) : Holds2 (φ := .f32) (iblk m c 4 t : FVec Ideal S512x256 .f32) fun r k => si (r * k) := by
  intro r k
  have e : (iblk m c 4 t : FVec Ideal S512x256 .f32) (ix2 r k) = (V m c main_v17 : FVec Ideal S512x256 .f32) (ix2 r k) := by
    blk_ext [iblk, index_eq t]
  refine e.trans ?_
  rw [V_v17]
  pointwise
  exact sin_apply r ⟨k, _⟩

/-- The inverse cosine table, as the host line computes it. -/
theorem V_v18 (c : Dev nD) :
    (V m c main_v18 : FVec Ideal S256x512 .f32) = extractStridedSlice S256x512 ![0, 0] (Host.cos angW) slices_S512x512_S256x512_0_0 := by
  simp only [V, hostOps0, hostOps0_1, hostOps0_2, List.flatten_cons, List.flatten_nil, List.append_nil, List.cons_append, List.nil_append]
  entry_read
  simp only [StableHlo.TRef.ofBuf_toBuf]
  rfl

/-- Every grid point's block of the inverse cosine table. -/
theorem blk5 (c : Dev nD) (t : Fin cfg0.N) : Holds2 (φ := .f32) (iblk m c 5 t : FVec Ideal S256x512 .f32) fun r k => co (r * k) := by
  intro r k
  have e : (iblk m c 5 t : FVec Ideal S256x512 .f32) (ix2 r k) = (V m c main_v18 : FVec Ideal S256x512 .f32) (ix2 r k) := by
    blk_ext [iblk, index_eq t]
  refine e.trans ?_
  rw [V_v18]
  pointwise
  exact cos_apply ⟨r, _⟩ k

/-- The inverse sine table, as the host line computes it. -/
theorem V_v19 (c : Dev nD) :
    (V m c main_v19 : FVec Ideal S256x512 .f32) = extractStridedSlice S256x512 ![0, 0] (Host.sin angW) slices_S512x512_S256x512_0_0 := by
  simp only [V, hostOps0, hostOps0_1, hostOps0_2, List.flatten_cons, List.flatten_nil, List.append_nil, List.cons_append, List.nil_append]
  entry_read
  simp only [StableHlo.TRef.ofBuf_toBuf]
  rfl

/-- Every grid point's block of the inverse sine table. -/
theorem blk6 (c : Dev nD) (t : Fin cfg0.N) : Holds2 (φ := .f32) (iblk m c 6 t : FVec Ideal S256x512 .f32) fun r k => si (r * k) := by
  intro r k
  have e : (iblk m c 6 t : FVec Ideal S256x512 .f32) (ix2 r k) = (V m c main_v19 : FVec Ideal S256x512 .f32) (ix2 r k) := by
    blk_ext [iblk, index_eq t]
  refine e.trans ?_
  rw [V_v19]
  pointwise
  exact sin_apply ⟨r, _⟩ k

/-- A grid point's block of the atoms: rows `5000 t` and on. -/
theorem blk0 (c : Dev nD) (t : Fin cfg0.N) (q : Fin 5000) (f : Fin 128) (h : 5000 * t.val + q.val < 50000) :
    (iblk m c 0 t : FVec Ideal S5000x128 .f32) (ix2 q f)
      = (m ((c : Thread nD τ).loc main_arg0) : FVec Ideal S50000x128 .f32) (ix2 ⟨5000 * t.val + q.val, h⟩ f) := by
  blk_ext [iblk, V, index_eq t]

/-- A grid point's block of the species words: words `5000 t` and on. -/
theorem blk1 (c : Dev nD) (t : Fin cfg0.N) (q : Fin 5000) (h : 5000 * t.val + q.val < 50000) :
    (iblk m c 1 t : IVec S1x1x5000 32) (ix3 0 0 q)
      = (m ((c : Thread nD τ).loc main_arg1) : IVec S50000 32) (ix1 ⟨5000 * t.val + q.val, h⟩) := by
  have h10 : t.val < 10 := by omega
  have e : (iblk m c 1 t : IVec S1x1x5000 32) (ix3 0 0 q) = (V m c main_v0 : IVec S10x1x5000 32) (ix3 ⟨t.val, h10⟩ 0 q) := by
    blk_ext [iblk, index_eq t]
  refine e.trans ?_
  simp only [V, hostOps0, hostOps0_1, hostOps0_2, List.flatten_cons, List.flatten_nil, List.append_nil, List.cons_append, List.nil_append]
  entry_read
  pointwise
  simp only [Nat.mul_comm]

/-- Every grid point's block of the count sketches is the whole array. -/
theorem blk2 (c : Dev nD) (t : Fin cfg0.N) (d : Fin 2) (r : Fin 512) (f : Fin 128) :
    (iblk m c 2 t : FVec Ideal S2x512x128 .f32) (ix3 d r f)
      = (m ((c : Thread nD τ).loc main_arg2) : FVec Ideal S2x512x128 .f32) (ix3 d r f) := by
  blk_ext [iblk, V, index_eq t]

end Cert.KernelIdeal.Tables
-- ==== Proof.Model.lean ====
module

public import proofs.«01_k».proof.Proof.Pay

@[expose] public section

/-!
The running sums over the atoms, as real numbers, and how one block of 5000 atoms extends them.
-/

set_option maxRecDepth 16384

noncomputable section

open Idealize.ShloMosaic

namespace Cert.KernelIdeal.Model

open Cert.KernelIdeal Cert.KernelIdeal.Gen Cert.KernelIdeal.Pay Cert.Sketch

variable (X : ℕ → ℕ → ℝ) (W : ℕ → BitVec 32) (C0 C1 : ℕ → ℕ → ℝ)

/-- Species `s`'s sum of the products' real parts at bin `k`, over the first `n` atoms. -/
def accP (n s k : ℕ) : ℝ := ∑ p ∈ Finset.range n, hot (W p) s * pre (X p) C0 C1 k

/-- Species `s`'s sum of the products' imaginary parts at bin `k`, over the first `n` atoms. -/
def accQ (n s k : ℕ) : ℝ := ∑ p ∈ Finset.range n, hot (W p) s * pim (X p) C0 C1 k

/-- Species `s`'s sum of the middle bins' products (column 0) and its count (column 1), over the first `n` atoms. -/
def accN (n s k : ℕ) : ℝ :=
  ∑ p ∈ Finset.range n, hot (W p) s * (if k < 1 then fre (X p) C0 256 * fre (X p) C1 256 else 1)

/-- The two degrees' alternating vectors. -/
def bnys (d f : ℕ) : ℝ := if d < 1 then bny C0 f else bny C1 f

/-- A sum over the atoms before a block and the block's atoms. -/
theorem sum_block (n : ℕ) (T : ℕ → ℝ) :
    ∑ p ∈ Finset.range (5000 * (n + 1)), T p = ∑ p ∈ Finset.range (5000 * n), T p + ∑ q : Fin 5000, T (5000 * n + q) := by
  rw [Nat.mul_succ, Finset.sum_range_add, ← Finset.sum_range (fun q => T (5000 * n + q))]

variable {X W C0 C1}
variable (n : ℕ) (x : FVec Ideal S5000x128 .f32) (w : IVec S1x1x5000 32) (a0 a1 a2 a3 : FVec Ideal S128x256 .bf16)

/-- One block extends the real half of the accumulator. -/
theorem step_re (a : FVec Ideal S8x256 .f32) (hx : Holds2 x fun q f => X (5000 * n + q) f)
    (hw : ∀ q : Fin 5000, w (ix3 0 0 q) = W (5000 * n + q)) (h0 : Holds2 a0 (bre C0)) (h1 : Holds2 a1 (bim C0))
    (h2 : Holds2 a2 (bre C1)) (h3 : Holds2 a3 (bim C1)) (ha : Holds2 a (accP X W C0 C1 (5000 * n))) :
    Holds2 (k0_pay2 (F := Ideal) (k0_pay24 x a0 a1 a2 a3) w a) (accP X W C0 C1 (5000 * (n + 1))) := by
  intro s k
  rw [pay2 _ w a (pay24 x a0 a1 a2 a3 hx h0 h1 h2 h3) ha s k]
  refine congrArg Real.toEReal ?_
  unfold accP
  rw [sum_block n fun p => hot (W p) s * pre (X p) C0 C1 k]
  refine congrArg _ (Finset.sum_congr rfl fun q _ => ?_)
  rw [hw q, sum_bre, sum_bre, sum_bim, sum_bim]
  rfl

/-- One block extends the imaginary half of the accumulator. -/
theorem step_im (a : FVec Ideal S8x256 .f32) (hx : Holds2 x fun q f => X (5000 * n + q) f)
    (hw : ∀ q : Fin 5000, w (ix3 0 0 q) = W (5000 * n + q)) (h0 : Holds2 a0 (bre C0)) (h1 : Holds2 a1 (bim C0))
    (h2 : Holds2 a2 (bre C1)) (h3 : Holds2 a3 (bim C1)) (ha : Holds2 a (accQ X W C0 C1 (5000 * n))) :
    Holds2 (k0_pay3 (F := Ideal) (k0_pay25 x a0 a1 a2 a3) w a) (accQ X W C0 C1 (5000 * (n + 1))) := by
  intro s k
  rw [pay3 _ w a (pay25 x a0 a1 a2 a3 hx h0 h1 h2 h3) ha s k]
  refine congrArg Real.toEReal ?_
  unfold accQ
  rw [sum_block n fun p => hot (W p) s * pim (X p) C0 C1 k]
  refine congrArg _ (Finset.sum_congr rfl fun q _ => ?_)
  rw [hw q, sum_bre, sum_bre, sum_bim, sum_bim]
  rfl

/-- One block extends the middle bins' sums and the counts. -/
theorem step_mid (b0 b1 : FVec Ideal S1x128 .f32) (a : FVec Ideal S8x2 .f32) (hx : Holds2 x fun q f => X (5000 * n + q) f)
    (hw : ∀ q : Fin 5000, w (ix3 0 0 q) = W (5000 * n + q)) (h0 : Holds2 b0 fun _ f => bny C0 f)
    (h1 : Holds2 b1 fun _ f => bny C1 f) (ha : Holds2 a (accN X W C0 C1 (5000 * n))) :
    Holds2 (k0_pay4 (F := Ideal) (k0_pay26 x b0 b1) w a) (accN X W C0 C1 (5000 * (n + 1))) := by
  intro s k
  rw [pay4 _ w a (pay26 x b0 b1 hx h0 h1) ha s k]
  refine congrArg Real.toEReal ?_
  unfold accN
  rw [sum_block n fun p => hot (W p) s * (if (k : ℕ) < 1 then fre (X p) C0 256 * fre (X p) C1 256 else 1)]
  refine congrArg _ (Finset.sum_congr rfl fun q _ => ?_)
  rw [hw q, sum_bny, sum_bny]

/-- The block written at the last point: each species' mean feature, over one more than its count, over 8. -/
theorem last (p : FVec Ideal S8x256 .f32) (q : FVec Ideal S8x256 .f32) (u w' : FVec Ideal S256x512 .f32)
    (nn dd : FVec Ideal S8x1 .f32) (N : ℕ)
    (hp : Holds2 p (accP X W C0 C1 N)) (hq : Holds2 q (accQ X W C0 C1 N)) (hu : Holds2 u fun k t => co (k * t))
    (hw : Holds2 w' fun k t => si (k * t)) (hn : Holds2 nn fun s _ => accN X W C0 C1 N s 0)
    (hd : Holds2 dd fun s _ => accN X W C0 C1 N s 1) :
    Holds2 (k0_pay5 (F := Ideal) k0_pay13 (k0_pay14 p u) (k0_pay15 q w') nn dd) fun s t =>
      (∑ i ∈ Finset.range N, hot (W i) s * zed (X i) C0 C1 t) / (∑ i ∈ Finset.range N, hot (W i) s + 1) / 8 := by
  have hpos : ∀ s : ℕ, 0 ≤ accN X W C0 C1 N s 1 := fun s => Finset.sum_nonneg fun i _ => by
    unfold hot
    split <;> norm_num
  intro s t
  rw [pay5 _ _ _ _ _ pay13 (pay14 p u hp hu) (pay15 q w' hq hw) hn hd
    (fun s => by have := hpos s; positivity) s t]
  refine congrArg Real.toEReal ?_
  have e1 : accN X W C0 C1 N s 1 = ∑ i ∈ Finset.range N, hot (W i) s := by
    unfold accN
    exact Finset.sum_congr rfl fun i _ => by rw [if_neg (by decide), mul_one]
  have e0 : accN X W C0 C1 N s 0 = ∑ i ∈ Finset.range N, hot (W i) s * (fre (X i) C0 256 * fre (X i) C1 256) := by
    unfold accN
    exact Finset.sum_congr rfl fun i _ => by rw [if_pos (by decide)]
  have hz := sum_zed C0 C1 (Finset.range N) (fun i => hot (W i) s) X t
  have hn0 : (∑ i ∈ Finset.range N, hot (W i) s + 1) ≠ 0 := by
    have := hpos s
    rw [e1] at this
    positivity
  dsimp only
  rw [e0, e1]
  unfold accP accQ
  rw [hz]
  field_simp
  ring

end Cert.KernelIdeal.Model
-- ==== Proof.Contents.lean ====
module

public import proofs.«01_k».proof.Proof.Points
public import proofs.«01_k».proof.Proof.Tables
public import proofs.«01_k».proof.Proof.Model

@[expose] public section

/-!
The carried buffers after every grid point, as running sums over the atoms seen so far, and the array
the kernel returns.
-/

set_option maxRecDepth 16384

noncomputable section

open Idealize.ShloMosaic Idealize.ShloMosaic.TcCoe Idealize.SL.Sem

namespace Cert.KernelIdeal.Contents

open Cert.KernelIdeal Cert.KernelIdeal.Gen Cert.KernelIdeal.Value Cert.KernelIdeal.Pay Cert.KernelIdeal.Model
open Cert.KernelIdeal.Tables Cert.KernelIdeal.Points Cert.Sketch

variable (m : (ℓ : Loc nD τ sig) → Buf (Elt Ideal) ℓ) (c : Dev nD)
variable (X : ℕ → ℕ → ℝ) (W : ℕ → BitVec 32) (C0 C1 : ℕ → ℕ → ℝ)

/-- The left half of an accumulator. -/
abbrev leftOf (a : FVec Ideal S8x512 .f32) : FVec Ideal S8x256 .f32 :=
  View.ld (Val := Elt Ideal) (e' := .f32) a (Rect.unit (s := S8x512) ![0, 0] S8x256.size inb_S8x512_S8x256_0_0)

/-- The right half of an accumulator. -/
abbrev rightOf (a : FVec Ideal S8x512 .f32) : FVec Ideal S8x256 .f32 :=
  View.ld (Val := Elt Ideal) (e' := .f32) a (Rect.unit (s := S8x512) ![0, 256] S8x256.size inb_S8x512_S8x256_0_256)

/-- The first of two rows. -/
abbrev row0Of (a : FVec Ideal S2x128 .f32) : FVec Ideal S1x128 .f32 :=
  View.ld (Val := Elt Ideal) (e' := .f32) a (Rect.unit (s := S2x128) ![0, 0] S1x128.size inb_S2x128_S1x128_0_0)

/-- The second of two rows. -/
abbrev row1Of (a : FVec Ideal S2x128 .f32) : FVec Ideal S1x128 .f32 :=
  View.ld (Val := Elt Ideal) (e' := .f32) a (Rect.unit (s := S2x128) ![1, 0] S1x128.size inb_S2x128_S1x128_1_0)

/-- The first of two columns. -/
abbrev col0Of (a : FVec Ideal S8x2 .f32) : FVec Ideal S8x1 .f32 :=
  View.ld (Val := Elt Ideal) (e' := .f32) a (Rect.unit (s := S8x2) ![0, 0] S8x1.size inb_S8x2_S8x1_0_0)

/-- The second of two columns. -/
abbrev col1Of (a : FVec Ideal S8x2 .f32) : FVec Ideal S8x1 .f32 :=
  View.ld (Val := Elt Ideal) (e' := .f32) a (Rect.unit (s := S8x2) ![0, 1] S8x1.size inb_S8x2_S8x1_0_1)

/-- The first of two slabs. -/
abbrev slab0Of (a : FVec Ideal S2x512x128 .f32) : FVec Ideal S1x512x128 .f32 :=
  View.ld (Val := Elt Ideal) (e' := .f32) a (Rect.unit (s := S2x512x128) ![0, 0, 0] S1x512x128.size inb_S2x512x128_S1x512x128_0_0_0)

/-- The second of two slabs. -/
abbrev slab1Of (a : FVec Ideal S2x512x128 .f32) : FVec Ideal S1x512x128 .f32 :=
  View.ld (Val := Elt Ideal) (e' := .f32) a (Rect.unit (s := S2x512x128) ![1, 0, 0] S1x512x128.size inb_S2x512x128_S1x512x128_1_0_0)

/-- Equal arrays hold the same reals. -/
theorem holds_of_eq {n k : ℕ} {φ : FTy} {u v : FVec Ideal ⟨2, ![n, k]⟩ φ} {f : ℕ → ℕ → ℝ} (e : u = v) (h : Holds2 v f) :
    Holds2 u f := e ▸ h

/-- The launched arrays hold the reals of `X`, `C0`, `C1` and the species words `W`. -/
structure Launched : Prop where
  atoms : Holds2 (φ := .f32) (m ((c : Thread nD τ).loc main_arg0) : FVec Ideal S50000x128 .f32) X
  words : ∀ n : Fin 50000, (m ((c : Thread nD τ).loc main_arg1) : IVec S50000 32) (ix1 n) = W n
  deg0 : ∀ (r : Fin 512) (f : Fin 128), (m ((c : Thread nD τ).loc main_arg2) : FVec Ideal S2x512x128 .f32) (ix3 0 r f) = ((C0 r f : ℝ) : EReal)
  deg1 : ∀ (r : Fin 512) (f : Fin 128), (m ((c : Thread nD τ).loc main_arg2) : FVec Ideal S2x512x128 .f32) (ix3 1 r f) = ((C1 r f : ℝ) : EReal)

/-- The carried buffers hold the two degrees' matrices and the sums over the first `N` atoms. -/
structure Carried (N : ℕ) (b0 b1 b2 b3 : FVec Ideal S128x256 .bf16) (bn : FVec Ideal S2x128 .f32)
    (acc : FVec Ideal S8x512 .f32) (nc : FVec Ideal S8x2 .f32) : Prop where
  re0 : Holds2 b0 (bre C0)
  im0 : Holds2 b1 (bim C0)
  re1 : Holds2 b2 (bre C1)
  im1 : Holds2 b3 (bim C1)
  ny : Holds2 bn (bnys C0 C1)
  left : Holds2 (leftOf acc) (accP X W C0 C1 N)
  right : Holds2 (rightOf acc) (accQ X W C0 C1 N)
  mid : Holds2 nc (accN X W C0 C1 N)

variable {m c X W C0 C1}

/-- A grid point's atoms. -/
theorem tile_atoms (hL : Launched m c X W C0 C1) (t : Fin cfg0.N) :
    Holds2 (φ := .f32) (iblk m c 0 t : FVec Ideal S5000x128 .f32) fun q f => X (5000 * t.val + q) f := by
  intro q f
  have hN : t.val < 10 := t.isLt
  have h : 5000 * t.val + q.val < 50000 := by omega
  exact (blk0 m c t q f h).trans (hL.atoms ⟨_, h⟩ f)

/-- A grid point's species words. -/
theorem tile_words (hL : Launched m c X W C0 C1) (t : Fin cfg0.N) (q : Fin 5000) :
    (iblk m c 1 t : IVec S1x1x5000 32) (ix3 0 0 q) = W (5000 * t.val + q) := by
  have hN : t.val < 10 := t.isLt
  have h : 5000 * t.val + q.val < 50000 := by omega
  exact (blk1 m c t q h).trans (hL.words ⟨_, h⟩)

/-- Degree 0's count sketch, as a grid point loads it. -/
theorem slab0 (hL : Launched m c X W C0 C1) (t : Fin cfg0.N) :
    Holds3 (slab0Of (iblk m c 2 t)) C0 := by
  intro r f
  refine Eq.trans ?_ ((blk2 m c t 0 r f).trans (hL.deg0 r f))
  pointwise [slab0Of]

/-- Degree 1's count sketch, as a grid point loads it. -/
theorem slab1 (hL : Launched m c X W C0 C1) (t : Fin cfg0.N) :
    Holds3 (slab1Of (iblk m c 2 t)) C1 := by
  intro r f
  refine Eq.trans ?_ ((blk2 m c t 1 r f).trans (hL.deg1 r f))
  pointwise [slab1Of]

/-- The first row of the stacked alternating vectors. -/
theorem row0 (bn : FVec Ideal S2x128 .f32) (h : Holds2 bn (bnys C0 C1)) :
    Holds2 (row0Of bn) fun _ f => bny C0 f := by
  intro j f
  obtain rfl : j = 0 := Subsingleton.elim _ _
  refine Eq.trans ?_ (h 0 f)
  pointwise [row0Of]

/-- The second row of the stacked alternating vectors. -/
theorem row1 (bn : FVec Ideal S2x128 .f32) (h : Holds2 bn (bnys C0 C1)) :
    Holds2 (row1Of bn) fun _ f => bny C1 f := by
  intro j f
  obtain rfl : j = 0 := Subsingleton.elim _ _
  refine Eq.trans ?_ (h 1 f)
  pointwise [row1Of]

/-- The first column of the middle bins and counts. -/
theorem col0 (nc : FVec Ideal S8x2 .f32) (N : ℕ) (h : Holds2 nc (accN X W C0 C1 N)) :
    Holds2 (col0Of nc) fun s _ => accN X W C0 C1 N s 0 := by
  intro s j
  obtain rfl : j = 0 := Subsingleton.elim _ _
  refine Eq.trans ?_ (h s 0)
  pointwise [col0Of]

/-- The second column of the middle bins and counts. -/
theorem col1 (nc : FVec Ideal S8x2 .f32) (N : ℕ) (h : Holds2 nc (accN X W C0 C1 N)) :
    Holds2 (col1Of nc) fun s _ => accN X W C0 C1 N s 1 := by
  intro s j
  obtain rfl : j = 0 := Subsingleton.elim _ _
  refine Eq.trans ?_ (h s 1)
  pointwise [col1Of]

/-- The cleared halves hold the empty sums. -/
theorem clear_left : Holds2 (leftOf (k0_pay17 (F := Ideal))) (accP X W C0 C1 (5000 * 0)) := by
  intro s k
  refine Eq.trans ?_ ((pay17 s ⟨k, by omega⟩).trans ?_)
  · pointwise [leftOf]
  · simp [accP]

/-- The cleared halves hold the empty sums. -/
theorem clear_right : Holds2 (rightOf (k0_pay17 (F := Ideal))) (accQ X W C0 C1 (5000 * 0)) := by
  intro s k
  refine Eq.trans ?_ ((pay17 s ⟨256 + k, by omega⟩).trans ?_)
  · pointwise [rightOf]
  · simp [accQ]

/-- The cleared middle bins and counts hold the empty sums. -/
theorem clear_mid : Holds2 (k0_pay18 (F := Ideal)) (accN X W C0 C1 (5000 * 0)) := by
  intro s k
  refine (pay18 s k).trans ?_
  simp [accN]

/-- The carried buffers after every point but the last. -/
theorem carried (hL : Launched m c X W C0 C1) : ∀ (n : ℕ) (hn : n < cfg0.N), n < 9 →
    Carried X W C0 C1 (5000 * (n + 1)) (outsAt0 m c n hn).2.1 (outsAt0 m c n hn).2.2.1 (outsAt0 m c n hn).2.2.2.1
      (outsAt0 m c n hn).2.2.2.2.1 (outsAt0 m c n hn).2.2.2.2.2.1 (outsAt0 m c n hn).2.2.2.2.2.2.1
      (outsAt0 m c n hn).2.2.2.2.2.2.2
  | 0, hn, _ => by
    have g0 : (⟨0, hn⟩ : Fin cfg0.N).val % 10 = 0 := rfl
    have g1 : ¬(⟨0, hn⟩ : Fin cfg0.N).val % 10 = 9 := by show ¬(0 % 10 = 9); omega
    have s0 := slab0 hL ⟨0, hn⟩
    have s1 := slab1 hL ⟨0, hn⟩
    have h0 := pay6 _ _ s0 (blk3 m c ⟨0, hn⟩)
    have h1 := pay7 _ _ s0 (blk4 m c ⟨0, hn⟩)
    have h2 := pay8 _ _ s1 (blk3 m c ⟨0, hn⟩)
    have h3 := pay9 _ _ s1 (blk4 m c ⟨0, hn⟩)
    have h4 := pay16 _ _ _ pay10 (pay11 _ s0) s1
    have hx := tile_atoms hL ⟨0, hn⟩
    have hw := tile_words hL ⟨0, hn⟩
    exact
      { re0 := holds_of_eq (first_0 m c ⟨0, hn⟩ g0 g1) (h0)
        im0 := holds_of_eq (first_1 m c ⟨0, hn⟩ g0 g1) (h1)
        re1 := holds_of_eq (first_2 m c ⟨0, hn⟩ g0 g1) (h2)
        im1 := holds_of_eq (first_3 m c ⟨0, hn⟩ g0 g1) (h3)
        ny := holds_of_eq (first_4 m c ⟨0, hn⟩ g0 g1) (h4)
        left := holds_of_eq (first_re m c ⟨0, hn⟩ g0 g1) (step_re 0 _ _ _ _ _ _ _ hx hw h0 h1 h2 h3 clear_left)
        right := holds_of_eq (first_im m c ⟨0, hn⟩ g0 g1) (step_im 0 _ _ _ _ _ _ _ hx hw h0 h1 h2 h3 clear_right)
        mid := holds_of_eq (first_mid m c ⟨0, hn⟩ g0 g1) (step_mid 0 _ _ _ _ _ hx hw (row0 _ h4) (row1 _ h4) clear_mid) }
  | n + 1, hn, hlt => by
    have g0 : ¬(⟨n + 1, hn⟩ : Fin cfg0.N).val % 10 = 0 := by show ¬((n + 1) % 10 = 0); omega
    have g1 : ¬(⟨n + 1, hn⟩ : Fin cfg0.N).val % 10 = 9 := by show ¬((n + 1) % 10 = 9); omega
    have ih := carried hL n (Nat.lt_of_succ_lt hn) (by omega)
    have hx := tile_atoms hL ⟨n + 1, hn⟩
    have hw := tile_words hL ⟨n + 1, hn⟩
    exact
      { re0 := holds_of_eq (next_0 m c ⟨n + 1, hn⟩ g0 g1) (ih.re0)
        im0 := holds_of_eq (next_1 m c ⟨n + 1, hn⟩ g0 g1) (ih.im0)
        re1 := holds_of_eq (next_2 m c ⟨n + 1, hn⟩ g0 g1) (ih.re1)
        im1 := holds_of_eq (next_3 m c ⟨n + 1, hn⟩ g0 g1) (ih.im1)
        ny := holds_of_eq (next_4 m c ⟨n + 1, hn⟩ g0 g1) (ih.ny)
        left := holds_of_eq (next_re m c ⟨n + 1, hn⟩ g0 g1) (step_re (n + 1) _ _ _ _ _ _ _ hx hw ih.re0 ih.im0 ih.re1 ih.im1 ih.left)
        right := holds_of_eq (next_im m c ⟨n + 1, hn⟩ g0 g1) (step_im (n + 1) _ _ _ _ _ _ _ hx hw ih.re0 ih.im0 ih.re1 ih.im1 ih.right)
        mid := holds_of_eq (next_mid m c ⟨n + 1, hn⟩ g0 g1) (step_mid (n + 1) _ _ _ _ _ hx hw (row0 _ ih.ny) (row1 _ ih.ny) ih.mid) }

/-- The block written at the last point, over all the atoms up to it. -/
theorem last_block (hL : Launched m c X W C0 C1) (n : ℕ) (hn : n + 1 < cfg0.N) (h9 : n + 1 = 9) :
    Holds2 (φ := .f32) ((outsAt0 m c (n + 1) hn).1 : FVec Ideal S8x512 .f32) fun s t =>
      (∑ i ∈ Finset.range (5000 * (n + 1 + 1)), hot (W i) s * zed (X i) C0 C1 t)
        / (∑ i ∈ Finset.range (5000 * (n + 1 + 1)), hot (W i) s + 1) / 8 := by
  have g0 : ¬(⟨n + 1, hn⟩ : Fin cfg0.N).val % 10 = 0 := by show ¬((n + 1) % 10 = 0); omega
  have g1 : (⟨n + 1, hn⟩ : Fin cfg0.N).val % 10 = 9 := by show (n + 1) % 10 = 9; omega
  have ih := carried hL n (Nat.lt_of_succ_lt hn) (by omega)
  have hx := tile_atoms hL ⟨n + 1, hn⟩
  have hw := tile_words hL ⟨n + 1, hn⟩
  have hm := step_mid (n + 1) _ _ _ _ _ hx hw (row0 _ ih.ny) (row1 _ ih.ny) ih.mid
  exact holds_of_eq (last_out m c ⟨n + 1, hn⟩ g0 g1)
    (last _ _ _ _ _ _ _ (step_re (n + 1) _ _ _ _ _ _ _ hx hw ih.re0 ih.im0 ih.re1 ih.im1 ih.left)
      (step_im (n + 1) _ _ _ _ _ _ _ hx hw ih.re0 ih.im0 ih.re1 ih.im1 ih.right) (blk5 m c ⟨n + 1, hn⟩) (blk6 m c ⟨n + 1, hn⟩)
      (col0 _ _ hm) (col1 _ _ hm))

/-- The array the kernel returns is the block the last point writes. -/
theorem array_last (n : ℕ) (hn : n < cfg0.N) (h9 : n = 9) : G7 m c = (outsAt0 m c n hn).1 := by
  subst h9
  rw [G7_last, outsAt0_sweep]

/-- The array the kernel returns: each species' mean feature, over one more than its count, over 8. -/
theorem result (hL : Launched m c X W C0 C1) (s : Fin 8) (t : Fin 512) :
    (G7 m c : FVec Ideal S8x512 .f32) (ix2 s t)
      = (((∑ i ∈ Finset.range 50000, hot (W i) s * zed (X i) C0 C1 t) / (∑ i ∈ Finset.range 50000, hot (W i) s + 1) / 8 : ℝ) : EReal) := by
  have h9 : (8 : ℕ) + 1 = 9 := rfl
  have hn : 8 + 1 < cfg0.N := (by decide : 9 < grid0.N)
  have e := array_last (m := m) (c := c) (8 + 1) hn h9
  have k := last_block hL 8 hn h9 s t
  exact (congrFun e (ix2 s t)).trans k

end Cert.KernelIdeal.Contents
-- ==== Proof.RefSpectrum.lean ====
module

public import proofs.«01_k».proof.Proof.Gen.ReferenceIdeal.Run
public import proofs.«01_k».proof.Proof.Reals
public import proofs.«01_k».proof.Proof.Tables
public import Idealize.ShloMosaic.Lib.Pointwise

@[expose] public section

/-!
What the reference computes atom by atom: the two sketches, their transforms, the product of the
transforms and the transform back. Each stage is named and read as a real.
-/

set_option maxRecDepth 16384

noncomputable section

open Idealize.ShloMosaic Idealize.ShloMosaic.TcCoe Idealize.SL.Sem

namespace Cert.ReferenceIdeal.Spectrum

open Cert.ReferenceIdeal Cert.ReferenceIdeal.Gen Cert.Sketch

/-- The angle table. -/
def ang : FVec Ideal S512x512 .f32 :=
  mulf (sitofp .f32 (muli (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (Host.divf (mulf (constant S_ .f32 0x40000000#32) (Host.acos (constant S_ .f32 0xBF800000#32))) (constant S_ .f32 0x44000000#32)))

/-- The cosine table. -/
def cosT : FVec Ideal S512x512 .f32 := Host.cos ang

/-- The sine table. -/
def sinT : FVec Ideal S512x512 .f32 := Host.sin ang

/-- The two count sketches of every atom. -/
def ske (A : FVec Ideal S50000x128 .f32) (C : FVec Ideal S2x512x128 .f32) : FVec Ideal S2x50000x512 .f32 :=
  transpose S2x50000x512 [1, 0, 2] (Host.dotGeneral dot_S50000x128_S2x512x128_S50000x2x512_1_2_0_01_n_n none (Host.divf A (broadcastInDim S50000x128 ![] bcast_S_S50000x128 (constant S_ .f32 0x3F800000#32))) C) transposes_S50000x2x512_S2x50000x512_1_0_2

/-- The real parts of the transforms. -/
def reT (K : FVec Ideal S2x50000x512 .f32) : FVec Ideal S2x50000x512 .f32 :=
  Host.dotGeneral dot_S2x50000x512_S512x512_S2x50000x512_2_0_01_1_n_n none K cosT

/-- The imaginary parts of the transforms. -/
def imT (K : FVec Ideal S2x50000x512 .f32) : FVec Ideal S2x50000x512 .f32 :=
  Host.negf (Host.dotGeneral dot_S2x50000x512_S512x512_S2x50000x512_2_0_01_1_n_n none K sinT)

/-- The first sketch's part. -/
def one0 (K : FVec Ideal S2x50000x512 .f32) : FVec Ideal S50000x512 .f32 :=
  shapeCast _ (extractStridedSlice S1x50000x512 ![0, 0, 0] K slices_S2x50000x512_S1x50000x512_0_0_0) shapeCasts_S1x50000x512_S50000x512

/-- The second sketch's part. -/
def one1 (K : FVec Ideal S2x50000x512 .f32) : FVec Ideal S50000x512 .f32 :=
  shapeCast _ (extractStridedSlice S1x50000x512 ![1, 0, 0] K slices_S2x50000x512_S1x50000x512_1_0_0) shapeCasts_S1x50000x512_S50000x512

/-- The real part of the transforms' product. -/
def prR (K : FVec Ideal S2x50000x512 .f32) : FVec Ideal S50000x512 .f32 :=
  subf (mulf (one0 (reT K)) (one1 (reT K))) (mulf (one0 (imT K)) (one1 (imT K)))

/-- The imaginary part of the transforms' product. -/
def prI (K : FVec Ideal S2x50000x512 .f32) : FVec Ideal S50000x512 .f32 :=
  addf (mulf (one0 (reT K)) (one1 (imT K))) (mulf (one0 (imT K)) (one1 (reT K)))

/-- The real part of the transform back. -/
def back (P Q : FVec Ideal S50000x512 .f32) : FVec Ideal S50000x512 .f32 :=
  Host.divf (subf (Host.dotGeneral dot_S50000x512_S512x512_S50000x512_1_0_0_1_n_n none P cosT)
    (Host.dotGeneral dot_S50000x512_S512x512_S50000x512_1_0_0_1_n_n none Q sinT)) (broadcastInDim S50000x512 ![] bcast_S_S50000x512 (constant S_ .f32 0x44000000#32))

/-- The angle at a row and a column: the product in steps of a 512th of a turn. -/
theorem ang_apply (r k : Fin 512) : ang (ix2 r k) = ((((r * k : ℕ) : ℝ) * (2 * Real.pi / 512) : ℝ) : EReal) := by
  pointwise [ang]
  have e3 : IntOp.muli (BitVec.ofNat 32 r) (BitVec.ofNat 32 k) = BitVec.ofNat 32 (r * k) := (BitVec.ofNat_mul _ _).symm
  have hb : (r * k : ℕ) < 2 ^ 31 := by
    have h1 := Nat.mul_le_mul (Nat.le_of_lt r.isLt) (Nat.le_of_lt k.isLt)
    omega
  rw [e3, Cert.KernelIdeal.Tables.sitofp_word _ hb]
  exact (congrArg _ step_eq).trans (EReal.coe_mul _ _).symm

/-- The cosine table holds the cosines. -/
theorem cosT_holds : Holds2 cosT fun r k => co (r * k) := by
  intro r k
  pointwise [cosT]
  rw [ang_apply, Ideal.cos_coe]; rfl

/-- The sine table holds the sines. -/
theorem sinT_holds : Holds2 sinT fun r k => si (r * k) := by
  intro r k
  pointwise [sinT]
  rw [ang_apply, Ideal.sin_coe]; rfl

/-- A pair of arrays holds the reals of `f`. -/
def HoldsPair (v : FVec Ideal S2x50000x512 .f32) (f : ℕ → ℕ → ℕ → ℝ) : Prop :=
  ∀ (d : Fin 2) (n : Fin 50000) (r : Fin 512), v (ix3 d n r) = ((f d n r : ℝ) : EReal)

/-- The sketches are the sketch sums. -/
theorem ske_holds (A : FVec Ideal S50000x128 .f32) (C : FVec Ideal S2x512x128 .f32) (X : ℕ → ℕ → ℝ) (D : ℕ → ℕ → ℕ → ℝ)
    (hA : Holds2 A X) (hC : ∀ (d : Fin 2) (r : Fin 512) (f : Fin 128), C (ix3 d r f) = ((D d r f : ℝ) : EReal)) :
    HoldsPair (ske A C) fun d n r => sk (X n) (D d) r := by
  intro d n r
  pointwise [ske]
  refine (Finset.sum_congr rfl fun f _ => ?_).trans (coe_sum _ _)
  rw [hA n f, hC d r f]
  have e : Ideal.div ((X n f : ℝ) : EReal) 1 = ((X n f : ℝ) : EReal) :=
    (coe_div _ 1 one_ne_zero).trans (by rw [div_one])
  exact (congrArg (· * ((D d r f : ℝ) : EReal)) e).trans (EReal.coe_mul _ _).symm

/-- The transforms' real parts. -/
theorem reT_holds (K : FVec Ideal S2x50000x512 .f32) (X : ℕ → ℕ → ℝ) (D : ℕ → ℕ → ℕ → ℝ)
    (hK : HoldsPair K fun d n r => sk (X n) (D d) r) : HoldsPair (reT K) fun d n k => fre (X n) (D d) k := by
  intro d n k
  pointwise [reT]
  refine (Finset.sum_congr rfl fun r _ => ?_).trans (coe_sum _ _)
  rw [hK d n r, cosT_holds r k]
  exact (EReal.coe_mul _ _).symm

/-- The transforms' imaginary parts. -/
theorem imT_holds (K : FVec Ideal S2x50000x512 .f32) (X : ℕ → ℕ → ℝ) (D : ℕ → ℕ → ℕ → ℝ)
    (hK : HoldsPair K fun d n r => sk (X n) (D d) r) : HoldsPair (imT K) fun d n k => fim (X n) (D d) k := by
  intro d n k
  pointwise [imT]
  refine (congrArg (fun z : EReal => -z) ((Finset.sum_congr rfl fun r _ => ?_).trans (coe_sum _ fun r : Fin 512 => sk (X n) (D d) r * si (r * k)))).trans
    (EReal.coe_neg _).symm
  rw [hK d n r, sinT_holds r k]
  exact (EReal.coe_mul _ _).symm

/-- The product's real part. -/
theorem prR_holds (K : FVec Ideal S2x50000x512 .f32) (X : ℕ → ℕ → ℝ) (D : ℕ → ℕ → ℕ → ℝ)
    (hK : HoldsPair K fun d n r => sk (X n) (D d) r) : Holds2 (prR K) fun n k => pre (X n) (D 0) (D 1) k := by
  intro n k
  pointwise [prR, one0, one1]
  rw [reT_holds K X D hK 0 n k, reT_holds K X D hK 1 n k, imT_holds K X D hK 0 n k, imT_holds K X D hK 1 n k]
  rw [← EReal.coe_mul, ← EReal.coe_mul, ← EReal.coe_sub]; rfl

/-- The product's imaginary part. -/
theorem prI_holds (K : FVec Ideal S2x50000x512 .f32) (X : ℕ → ℕ → ℝ) (D : ℕ → ℕ → ℕ → ℝ)
    (hK : HoldsPair K fun d n r => sk (X n) (D d) r) : Holds2 (prI K) fun n k => pim (X n) (D 0) (D 1) k := by
  intro n k
  pointwise [prI, one0, one1]
  rw [reT_holds K X D hK 0 n k, reT_holds K X D hK 1 n k, imT_holds K X D hK 0 n k, imT_holds K X D hK 1 n k]
  rw [← EReal.coe_mul, ← EReal.coe_mul, ← EReal.coe_add]; rfl

/-- The transform back. -/
theorem back_holds (P Q : FVec Ideal S50000x512 .f32) (X : ℕ → ℕ → ℝ) (c c' : ℕ → ℕ → ℝ)
    (hP : Holds2 P fun n k => pre (X n) c c' k) (hQ : Holds2 Q fun n k => pim (X n) c c' k) :
    Holds2 (back P Q) fun n t => zed (X n) c c' t := by
  intro n t
  pointwise [back]
  have e1 : (∑ k : Fin 512, P (ix2 n k) * cosT (ix2 k t) : EReal) = ((∑ k : Fin 512, pre (X n) c c' k * co (k * t) : ℝ) : EReal) := by
    refine (Finset.sum_congr rfl fun k _ => ?_).trans (coe_sum _ _)
    rw [hP n k, cosT_holds k t]
    exact (EReal.coe_mul _ _).symm
  have e2 : (∑ k : Fin 512, Q (ix2 n k) * sinT (ix2 k t) : EReal) = ((∑ k : Fin 512, pim (X n) c c' k * si (k * t) : ℝ) : EReal) := by
    refine (Finset.sum_congr rfl fun k _ => ?_).trans (coe_sum _ _)
    rw [hQ n k, sinT_holds k t]
    exact (EReal.coe_mul _ _).symm
  refine (congrArg₂ Ideal.div (congrArg₂ (fun a b : EReal => a - b) e1 e2) bits_512).trans ?_
  rw [← EReal.coe_sub, coe_div _ _ (by norm_num)]; rfl

/-- The reference's feature of every atom. -/
def feat (A : FVec Ideal S50000x128 .f32) (C : FVec Ideal S2x512x128 .f32) : FVec Ideal S50000x512 .f32 :=
  back (prR (ske A C)) (prI (ske A C))

/-- The reference's feature of every atom is `zed`. -/
theorem feat_holds (A : FVec Ideal S50000x128 .f32) (C : FVec Ideal S2x512x128 .f32) (X : ℕ → ℕ → ℝ) (D : ℕ → ℕ → ℕ → ℝ)
    (hA : Holds2 A X) (hC : ∀ (d : Fin 2) (r : Fin 512) (f : Fin 128), C (ix3 d r f) = ((D d r f : ℝ) : EReal)) :
    Holds2 (feat A C) fun n t => zed (X n) (D 0) (D 1) t :=
  back_holds _ _ X (D 0) (D 1) (prR_holds _ X D (ske_holds A C X D hA hC)) (prI_holds _ X D (ske_holds A C X D hA hC))

end Cert.ReferenceIdeal.Spectrum

end
-- ==== Proof.RefValue.lean ====
module

public import proofs.«01_k».proof.Proof.RefSpectrum
public import Idealize.ShloMosaic.Lib.Routing.OpsPair

@[expose] public section

/-!
What the reference's result holds: the features summed over each species' atoms, divided by the
number of those atoms plus one, divided by eight.
-/

set_option maxRecDepth 16384

noncomputable section

open Idealize.ShloMosaic Idealize.ShloMosaic.TcCoe Idealize.SL.Sem

namespace Cert.ReferenceIdeal.Species

open Cert.ReferenceIdeal Cert.ReferenceIdeal.Gen Cert.Sketch Cert.ReferenceIdeal.Spectrum

/-- The species words as a column. -/
def col (S : IVec S50000 32) : IVec S50000x1 32 := broadcastInDim S50000x1 ![0] bcast_S50000_S50000x1_0 S

/-- The features summed over each species' atoms. -/
def sums (S : IVec S50000 32) (U : FVec Ideal S50000x512 .f32) : FVec Ideal S8x512 .f32 :=
  Host.scatterAdd scatter_S8x512_S50000x1_S50000x512_1_0_0_1 (broadcastInDim S8x512 ![] bcast_S_S8x512 (constant S_ .f32 0x00000000#32)) (col S) U

/-- The number of each species' atoms. -/
def cnts (S : IVec S50000 32) : FVec Ideal S8 .f32 :=
  Host.scatterAdd scatter_S8_S50000x1_S50000_n_0_0_1 (broadcastInDim S8 ![] bcast_S_S8 (constant S_ .f32 0x00000000#32)) (col S)
    (broadcastInDim S50000 ![] bcast_S_S50000 (constant S_ .f32 0x3F800000#32))

/-- An atom's word, read signed, is a species' number exactly when it is that number's word. -/
theorem word_iff (w : BitVec 32) (s : Fin 8) : w.toInt = (s.val : ℤ) ↔ w = BitVec.ofNat 32 s := by
  rw [← BitVec.toInt_inj]
  have e : (BitVec.ofNat 32 s.val).toInt = (s.val : ℤ) := by revert s; decide
  rw [e]

/-- An atom's feature lands in its species' row, in its own column. -/
theorem lands2 (S : IVec S50000 32) (n : Fin 50000) (t' t : Fin 512) (s : Fin 8) :
    scatter_S8x512_S50000x1_S50000x512_1_0_0_1.resultIdx? (ix2 n t') (col S) = some (ix2 s t) ↔ S (ix1 n) = BitVec.ofNat 32 s ∧ t' = t := by
  have w0 : scatter_S8x512_S50000x1_S50000x512_1_0_0_1.window (ix2 n t') 0 = 0 := rfl
  have w1 : scatter_S8x512_S50000x1_S50000x512_1_0_0_1.window (ix2 n t') 1 = t'.val := rfl
  have s1 : scatter_S8x512_S50000x1_S50000x512_1_0_0_1.start (ix2 n t') (col S) 1 = 0 := rfl
  have s0 : scatter_S8x512_S50000x1_S50000x512_1_0_0_1.start (ix2 n t') (col S) 0 = (S (ix1 n)).toInt := by
    unfold ScatterDims.start
    rw [dif_pos (by decide)]
    refine congrArg (fun j => (S j).toInt) (funext fun b => ?_)
    match b with
    | ⟨0, _⟩ => rfl
  refine (Routing.resultIdx?_ix2 _ _ _ s t).trans ?_
  rw [s0, w0, s1, w1, Fin.ext_iff, ← word_iff]
  omega

/-- An atom's one lands at its species' number. -/
theorem lands1 (S : IVec S50000 32) (n : Fin 50000) (s : Fin 8) :
    scatter_S8_S50000x1_S50000_n_0_0_1.resultIdx? (ix1 n) (col S) = some (ix1 s) ↔ S (ix1 n) = BitVec.ofNat 32 s := by
  have w0 : scatter_S8_S50000x1_S50000_n_0_0_1.window (ix1 n) 0 = 0 := rfl
  have s0 : scatter_S8_S50000x1_S50000_n_0_0_1.start (ix1 n) (col S) 0 = (S (ix1 n)).toInt := by
    unfold ScatterDims.start
    rw [dif_pos (by decide)]
    refine congrArg (fun j => (S j).toInt) (funext fun b => ?_)
    match b with
    | ⟨0, _⟩ => rfl
  refine (Routing.resultIdx?_ix1 _ _ _ s).trans ?_
  rw [s0, w0, ← word_iff]
  omega

/-- A species' sum of features: the one-hot weighted sum over all atoms. -/
theorem sums_apply (S : IVec S50000 32) (U : FVec Ideal S50000x512 .f32) (W : ℕ → BitVec 32) (Z : ℕ → ℕ → ℝ)
    (hS : ∀ n : Fin 50000, S (ix1 n) = W n) (hU : Holds2 U Z) (s : Fin 8) (t : Fin 512) :
    sums S U (ix2 s t) = ((∑ n ∈ Finset.range 50000, hot (W n) s * Z n t : ℝ) : EReal) := by
  rw [← Fin.sum_univ_eq_sum_range fun n => hot (W n) s * Z n t]
  have h0 : (broadcastInDim S8x512 ![] bcast_S_S8x512 (constant S_ .f32 0x00000000#32) : FVec Ideal S8x512 .f32) (ix2 s t) = (0 : EReal) := by
    pointwise
  unfold sums Host.scatterAdd
  rw [Ideal.hostScatterAdd_def]
  unfold Ideal.hostScatterAdd
  rw [h0, zero_add, Finset.sum_filter, sum_idx2, ← coe_sum]
  refine Finset.sum_congr rfl fun n _ => ?_
  simp only [lands2, hS, hU _ _]
  unfold hot
  by_cases h : W n = BitVec.ofNat 32 s
  · simp [h]
  · simp [h]

/-- A species' number of atoms: the sum of the one-hots. -/
theorem cnts_apply (S : IVec S50000 32) (W : ℕ → BitVec 32) (hS : ∀ n : Fin 50000, S (ix1 n) = W n) (s : Fin 8) :
    cnts S (ix1 s) = ((∑ n ∈ Finset.range 50000, hot (W n) s : ℝ) : EReal) := by
  rw [← Fin.sum_univ_eq_sum_range fun n => hot (W n) s]
  have h0 : (broadcastInDim S8 ![] bcast_S_S8 (constant S_ .f32 0x00000000#32) : FVec Ideal S8 .f32) (ix1 s) = (0 : EReal) := by
    pointwise
  have h1 : ∀ n : Fin 50000, (broadcastInDim S50000 ![] bcast_S_S50000 (constant S_ .f32 0x3F800000#32) : FVec Ideal S50000 .f32) (ix1 n) = (1 : EReal) := by
    intro n
    pointwise
  unfold cnts Host.scatterAdd
  rw [Ideal.hostScatterAdd_def]
  unfold Ideal.hostScatterAdd
  rw [h0, zero_add, Finset.sum_filter, sum_idx1, ← coe_sum]
  refine Finset.sum_congr rfl fun n _ => ?_
  simp only [lands1, hS, h1]
  unfold hot
  by_cases h : W n = BitVec.ofNat 32 s
  · simp [h]
  · simp [h]

/-- The sums over the counts plus one, over eight. -/
def fin (U : FVec Ideal S8x512 .f32) (N : FVec Ideal S8 .f32) : FVec Ideal S8x512 .f32 :=
  Host.divf (Host.divf U (broadcastInDim S8x512 ![0, 1] bcast_S8x1_S8x512_0_1 (addf (broadcastInDim S8x1 ![0] bcast_S8_S8x1_0 N)
    (broadcastInDim S8x1 ![] bcast_S_S8x1 (constant S_ .f32 0x3F800000#32))))) (broadcastInDim S8x512 ![] bcast_S_S8x512 (constant S_ .f32 0x41000000#32))

/-- The last two quotients, read as reals. -/
theorem fin_apply (U : FVec Ideal S8x512 .f32) (N : FVec Ideal S8 .f32) (s : Fin 8) (t : Fin 512) (u n : ℝ) (hn : 0 ≤ n)
    (hU : U (ix2 s t) = ((u : ℝ) : EReal)) (hN : N (ix1 s) = ((n : ℝ) : EReal)) :
    fin U N (ix2 s t) = ((u / (n + 1) / 8 : ℝ) : EReal) := by
  pointwise [fin]
  rw [hU, hN]
  have e : ((n : ℝ) : EReal) + 1 = ((n + 1 : ℝ) : EReal) := (EReal.coe_add n 1).symm
  refine (congrArg₂ Ideal.div ((congrArg (Ideal.div ((u : ℝ) : EReal)) e).trans (coe_div _ _ (by linarith))) bits_eight).trans ?_
  exact coe_div _ _ (by norm_num)

/-- The reference's result is these stages of its arguments. -/
theorem res_eq (m : (ℓ : Loc nD τ sig) → Buf (Elt Ideal) ℓ) (c : Dev nD) :
    (Cert.ReferenceIdeal.Value.res_main_v61 (F := Ideal) m c : FVec Ideal S8x512 .f32)
      = fin (sums (m ((c.tc : Thread nD τ).loc main_arg1))
          (feat (m ((c.tc : Thread nD τ).loc main_arg0)) (m ((c.tc : Thread nD τ).loc main_arg2))))
        (cnts (m ((c.tc : Thread nD τ).loc main_arg1))) := by
  unfold Cert.ReferenceIdeal.Value.res_main_v61
  rfl

/-- What the reference's result holds, of finite arguments. -/
theorem result (m : (ℓ : Loc nD τ sig) → Buf (Elt Ideal) ℓ) (c : Dev nD) (X : ℕ → ℕ → ℝ) (W : ℕ → BitVec 32) (D : ℕ → ℕ → ℕ → ℝ)
    (hA : Holds2 (φ := .f32) (m ((c.tc : Thread nD τ).loc main_arg0) : FVec Ideal S50000x128 .f32) X)
    (hS : ∀ n : Fin 50000, (m ((c.tc : Thread nD τ).loc main_arg1) : IVec S50000 32) (ix1 n) = W n)
    (hC : ∀ (d : Fin 2) (r : Fin 512) (f : Fin 128), (m ((c.tc : Thread nD τ).loc main_arg2) : FVec Ideal S2x512x128 .f32) (ix3 d r f) = ((D d r f : ℝ) : EReal))
    (s : Fin 8) (t : Fin 512) :
    (Cert.ReferenceIdeal.Value.res_main_v61 (F := Ideal) m c : FVec Ideal S8x512 .f32) (ix2 s t)
      = (((∑ n ∈ Finset.range 50000, hot (W n) s * zed (X n) (D 0) (D 1) t) / (∑ n ∈ Finset.range 50000, hot (W n) s + 1) / 8 : ℝ) : EReal) := by
  rw [res_eq]
  refine fin_apply _ _ s t _ _ (Finset.sum_nonneg fun n _ => ?_)
    (sums_apply _ _ W (fun n t => zed (X n) (D 0) (D 1) t) hS (feat_holds _ _ X D hA hC) s t) (cnts_apply _ W hS s)
  unfold hot
  split <;> norm_num

end Cert.ReferenceIdeal.Species

end
-- ==== Proof.Finite.lean ====
module

public import proofs.«01_k».proof.Pre_finite
public import proofs.«01_k».proof.Proof.Gen.Pre_finite
public import proofs.«01_k».proof.Proof.Reals
public import Idealize.ShloMosaic.Lib.ReduceAll

@[expose] public section

/-!
What the precondition gives: every entry of the atoms and of the count sketches is a real.
-/

set_option maxRecDepth 16384

noncomputable section

open Idealize.ShloMosaic Idealize.ShloMosaic.TcCoe Idealize.SL.Sem

namespace Cert.Pre_finite.Entries

open Cert.Pre_finite Cert.Pre_finite.Gen Cert.Sketch

/-- The literal infinity. -/
theorem bits_inf : Ideal.ofBits .f32 0x7F800000#32 = (⊤ : EReal) := by
  simp [Ideal.ofBits, Ideal.ieee]

/-- An extended real whose size is below infinity is a real. -/
theorem real_of_lt (x : EReal) (h : max x (-x) < ⊤) : x = ((x.toReal : ℝ) : EReal) := by
  rcases max_lt_iff.1 h with ⟨h1, h2⟩
  refine (EReal.coe_toReal (ne_of_lt h1) fun e => ?_).symm
  rw [e] at h2
  simp at h2

/-- An extended real whose comparison bit is set is a real. -/
theorem real_of_bit (x : EReal) (h : BitVec.ofBool (decide (max x (-x) < Ideal.ofBits .f32 0x7F800000#32)) = 1#1) : x = ((x.toReal : ℝ) : EReal) := by
  rw [bits_inf] at h
  refine real_of_lt x (by_contra fun n => ?_)
  rw [decide_eq_false n] at h
  exact absurd h (by decide)

/-- Both bits of an `and` that is set are set. -/
theorem both : ∀ a b : BitVec 1, IntOp.andi a b = 1#1 → a = 1#1 ∧ b = 1#1 := by decide

/-- The result's shape has one index. -/
instance one_index : Subsingleton S_.Idx := ⟨fun a b => funext fun i => i.elim0⟩

/-- Every entry of the atoms is a real. -/
theorem atoms (A : FVec Ideal S50000x128 .f32) (S : IVec S50000 32) (C : FVec Ideal S2x512x128 .f32)
    (h : fn (F := Ideal) A S C = fun _ => 1#1) (n : Fin 50000) (f : Fin 128) : A (ix2 n f) = (((A (ix2 n f) : EReal).toReal : ℝ) : EReal) := by
  have h0 := congrFun h ix0
  dsimp only [fn] at h0
  have h1 := (both _ _ h0).1
  have h2 := Host.reduce_andi_all _ _ _ _ _ h1 (ix2 n f)
  pointwise at h2
  exact real_of_bit _ h2

/-- Every entry of the count sketches is a real. -/
theorem sketches (A : FVec Ideal S50000x128 .f32) (S : IVec S50000 32) (C : FVec Ideal S2x512x128 .f32)
    (h : fn (F := Ideal) A S C = fun _ => 1#1) (d : Fin 2) (r : Fin 512) (f : Fin 128) : C (ix3 d r f) = (((C (ix3 d r f) : EReal).toReal : ℝ) : EReal) := by
  have h0 := congrFun h ix0
  dsimp only [fn] at h0
  have h1 := (both _ _ h0).2
  have h2 := Host.reduce_andi_all _ _ _ _ _ h1 (ix3 d r f)
  pointwise at h2
  exact real_of_bit _ h2

end Cert.Pre_finite.Entries

end
-- ==== Proof.Equation.lean ====
module

public import proofs.«01_k».proof.Proof.Contents
public import proofs.«01_k».proof.Proof.RefValue
public import proofs.«01_k».proof.Proof.Finite

@[expose] public section

/-!
The equation: from the same finite arguments, the kernel's result array and the reference's are equal.
-/

set_option maxRecDepth 16384

noncomputable section

open Idealize.ShloMosaic Idealize.ShloMosaic.TcCoe Idealize.SL.Sem

namespace Cert.Equation

open Cert.Sketch

/-- A number as an index, zero when it is too large. -/
def at0 (N : ℕ) [NeZero N] (n : ℕ) : Fin N := if h : n < N then ⟨n, h⟩ else 0

/-- An index's number gives the index back. -/
theorem at0_val (N : ℕ) [NeZero N] (n : Fin N) : at0 N n.val = n := by
  unfold at0
  rw [dif_pos n.isLt]

/-- The reals of the atoms. -/
def atomsOf (A : FVec Ideal (⟨2, ![50000, 128]⟩ : Shape) .f32) (n f : ℕ) : ℝ := (A (ix2 (at0 50000 n) (at0 128 f)) : EReal).toReal

/-- The species words. -/
def wordsOf (S : IVec (⟨1, ![50000]⟩ : Shape) 32) (n : ℕ) : BitVec 32 := S (ix1 (at0 50000 n))

/-- The reals of the count sketches. -/
def sketchesOf (C : FVec Ideal (⟨3, ![2, 512, 128]⟩ : Shape) .f32) (d r f : ℕ) : ℝ := (C (ix3 (at0 2 d) (at0 512 r) (at0 128 f)) : EReal).toReal

/-- From the same finite arguments, the reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hP : (Cert.Pre_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v61 (F := Ideal) m' c = Cert.KernelIdeal.Value.G7 m c := by
  have hA := Cert.Pre_finite.Entries.atoms _ _ _ hP
  have hC := Cert.Pre_finite.Entries.sketches _ _ _ hP
  have eA : ∀ (n : Fin 50000) (f : Fin 128), (m ((c.tc : Thread Cert.KernelIdeal.nD Cert.KernelIdeal.τ).loc Cert.KernelIdeal.main_arg0) : FVec Ideal (⟨2, ![50000, 128]⟩ : Shape) .f32) (ix2 n f)
      = ((atomsOf (m ((c.tc : Thread Cert.KernelIdeal.nD Cert.KernelIdeal.τ).loc Cert.KernelIdeal.main_arg0)) n f : ℝ) : EReal) := by
    intro n f
    unfold atomsOf
    rw [at0_val, at0_val]
    exact hA n f
  have eS : ∀ n : Fin 50000, (m ((c.tc : Thread Cert.KernelIdeal.nD Cert.KernelIdeal.τ).loc Cert.KernelIdeal.main_arg1) : IVec (⟨1, ![50000]⟩ : Shape) 32) (ix1 n)
      = wordsOf (m ((c.tc : Thread Cert.KernelIdeal.nD Cert.KernelIdeal.τ).loc Cert.KernelIdeal.main_arg1)) n := by
    intro n
    unfold wordsOf
    rw [at0_val]
  have eC : ∀ (d : Fin 2) (r : Fin 512) (f : Fin 128), (m ((c.tc : Thread Cert.KernelIdeal.nD Cert.KernelIdeal.τ).loc Cert.KernelIdeal.main_arg2) : FVec Ideal (⟨3, ![2, 512, 128]⟩ : Shape) .f32) (ix3 d r f)
      = ((sketchesOf (m ((c.tc : Thread Cert.KernelIdeal.nD Cert.KernelIdeal.τ).loc Cert.KernelIdeal.main_arg2)) d r f : ℝ) : EReal) := by
    intro d r f
    unfold sketchesOf
    rw [at0_val, at0_val, at0_val]
    exact hC d r f
  have hR := Cert.ReferenceIdeal.Species.result m' c
    (atomsOf (m ((c.tc : Thread Cert.KernelIdeal.nD Cert.KernelIdeal.τ).loc Cert.KernelIdeal.main_arg0)))
    (wordsOf (m ((c.tc : Thread Cert.KernelIdeal.nD Cert.KernelIdeal.τ).loc Cert.KernelIdeal.main_arg1)))
    (sketchesOf (m ((c.tc : Thread Cert.KernelIdeal.nD Cert.KernelIdeal.τ).loc Cert.KernelIdeal.main_arg2)))
    (fun n f => (congrFun h0 (ix2 n f)).trans (eA n f)) (fun n => (congrFun h1 (ix1 n)).trans (eS n))
    (fun d r f => (congrFun h2 (ix3 d r f)).trans (eC d r f))
  have hK := fun (s : Fin 8) (t : Fin 512) => Cert.KernelIdeal.Contents.result (m := m) (c := c)
    (X := atomsOf (m ((c.tc : Thread Cert.KernelIdeal.nD Cert.KernelIdeal.τ).loc Cert.KernelIdeal.main_arg0)))
    (W := wordsOf (m ((c.tc : Thread Cert.KernelIdeal.nD Cert.KernelIdeal.τ).loc Cert.KernelIdeal.main_arg1)))
    (C0 := sketchesOf (m ((c.tc : Thread Cert.KernelIdeal.nD Cert.KernelIdeal.τ).loc Cert.KernelIdeal.main_arg2)) 0)
    (C1 := sketchesOf (m ((c.tc : Thread Cert.KernelIdeal.nD Cert.KernelIdeal.τ).loc Cert.KernelIdeal.main_arg2)) 1)
    ⟨eA, eS, eC 0, eC 1⟩ s t
  funext i
  have e : i = ix2 (n0 := 8) (n1 := 512) (i 0) (i 1) := eq_ix2 i
  rw [e]
  exact (hR (i 0) (i 1)).trans (hK (i 0) (i 1)).symm

end Cert.Equation

end
-- ==== Proof.lean ====
module

public import proofs.«01_k».proof.Defs
public import proofs.«01_k».proof.Proof.Equation
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves its arguments and its counters as they were. -/
theorem frame_ref : quiescent_ReferenceIdeal (hReferenceIdeal := Cert.ReferenceIdeal.Gen.facts) :=
  fun m ρ _ => (θ_run _ _ _).mono (fun r hr => ⟨fun c => (hr c).2, sem_eq_zero_of_no_sems (by decide) _⟩)
    (Cert.ReferenceIdeal.Value.run m ρ)

/-- The two programs, run from the same finite arguments, end with the same result. -/
theorem values : algebraic_KernelIdeal_ReferenceIdeal_pre_finite (hKernelIdeal := Cert.KernelIdeal.Gen.facts)
    (hReferenceIdeal := Cert.ReferenceIdeal.Gen.facts) (hPre_finite := Cert.Pre_finite.Gen.facts) :=
  fun m ρ m' ρ' hP hA =>
    ⟨fun c => Cert.KernelIdeal.Value.G7 m c, Cert.KernelIdeal.Value.run m ρ,
      (θ_run _ _ _).mono (fun r hr c => ⟨(hr c).1.trans (Cert.Equation.same m m' c (hP c) (hA c).1 (hA c).2.1 (hA c).2.2), (hr c).2⟩)
        (Cert.ReferenceIdeal.Value.run m' ρ')⟩

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  trivial,
  values⟩

end Cert.Proof

end
